-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_memory [hPre_finite_memory : Cert.Pre_finite_memory.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_memory.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_memory [hPre_finite_memory : Cert.Pre_finite_memory.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_memory.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_memory [hKernel2Ideal : Cert.Kernel2Ideal.Facts] [hPre_finite_memory : Cert.Pre_finite_memory.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_memory m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_memory [hReference2Ideal : Cert.Reference2Ideal.Facts] [hPre_finite_memory : Cert.Pre_finite_memory.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_memory m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "sel" .f32 0xCE6E6B28#32 ⊥
  ∧ IdealRules.named_const.Statement Cert.KernelIdeal.κ "mask" .f32 0xF149F2CA#32 ⊥

def preserves_Kernel2_Kernel2Ideal : Prop :=
  True

def algebraic_Kernel2Ideal_Reference2Ideal_pre_finite_memory [hKernel2Ideal : Cert.Kernel2Ideal.Facts] [hReference2Ideal : Cert.Reference2Ideal.Facts] [hPre_finite_memory : Cert.Pre_finite_memory.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_memory m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v69_0)) (v1 : (c : Dev Cert.Kernel4Ideal.nD) → Buf (Elt Ideal) ((c.tc : Thread Cert.Kernel4Ideal.nD Cert.Kernel4Ideal.τ).loc Cert.Kernel4Ideal.main_v69_1)) (v2 : (c : Dev Cert.Kernel4Ideal.nD) → Buf (Elt Ideal) ((c.tc : Thread Cert.Kernel4Ideal.nD Cert.Kernel4Ideal.τ).loc Cert.Kernel4Ideal.main_v69_2)) (v3 : (c : Dev Cert.Kernel4Ideal.nD) → Buf (Elt Ideal) ((c.tc : Thread Cert.Kernel4Ideal.nD Cert.Kernel4Ideal.τ).loc Cert.Kernel4Ideal.main_v69_3)) (v4 : (c : Dev Cert.Kernel4Ideal.nD) → Buf (Elt Ideal) ((c.tc : Thread Cert.Kernel4Ideal.nD Cert.Kernel4Ideal.τ).loc Cert.Kernel4Ideal.main_v69_4)) (v5 : (c : Dev Cert.Kernel4Ideal.nD) → Buf (Elt Ideal) ((c.tc : Thread Cert.Kernel4Ideal.nD Cert.Kernel4Ideal.τ).loc Cert.Kernel4Ideal.main_v69_5)) (v6 : (c : Dev Cert.Kernel4Ideal.nD) → Buf (Elt Ideal) ((c.tc : Thread Cert.Kernel4Ideal.nD Cert.Kernel4Ideal.τ).loc Cert.Kernel4Ideal.main_v69_6)) (v7 : (c : Dev Cert.Kernel4Ideal.nD) → Buf (Elt Ideal) ((c.tc : Thread Cert.Kernel4Ideal.nD Cert.Kernel4Ideal.τ).loc Cert.Kernel4Ideal.main_v69_7)) (v8 : (c : Dev Cert.Kernel4Ideal.nD) → Buf (Elt Ideal) ((c.tc : Thread Cert.Kernel4Ideal.nD Cert.Kernel4Ideal.τ).loc Cert.Kernel4Ideal.main_v69_9)) (v9 : (c : Dev Cert.Kernel4Ideal.nD) → Buf (Elt Ideal) ((c.tc : Thread Cert.Kernel4Ideal.nD Cert.Kernel4Ideal.τ).loc Cert.Kernel4Ideal.main_v69_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v69_0) = v0 c
          ∧ r.2.mem ((c.tc : Thread Cert.Kernel4Ideal.nD Cert.Kernel4Ideal.τ).loc Cert.Kernel4Ideal.main_v69_1) = v1 c
          ∧ r.2.mem ((c.tc : Thread Cert.Kernel4Ideal.nD Cert.Kernel4Ideal.τ).loc Cert.Kernel4Ideal.main_v69_2) = v2 c
          ∧ r.2.mem ((c.tc : Thread Cert.Kernel4Ideal.nD Cert.Kernel4Ideal.τ).loc Cert.Kernel4Ideal.main_v69_3) = v3 c
          ∧ r.2.mem ((c.tc : Thread Cert.Kernel4Ideal.nD Cert.Kernel4Ideal.τ).loc Cert.Kernel4Ideal.main_v69_4) = v4 c
          ∧ r.2.mem ((c.tc : Thread Cert.Kernel4Ideal.nD Cert.Kernel4Ideal.τ).loc Cert.Kernel4Ideal.main_v69_5) = v5 c
          ∧ r.2.mem ((c.tc : Thread Cert.Kernel4Ideal.nD Cert.Kernel4Ideal.τ).loc Cert.Kernel4Ideal.main_v69_6) = v6 c
          ∧ r.2.mem ((c.tc : Thread Cert.Kernel4Ideal.nD Cert.Kernel4Ideal.τ).loc Cert.Kernel4Ideal.main_v69_7) = v7 c
          ∧ r.2.mem ((c.tc : Thread Cert.Kernel4Ideal.nD Cert.Kernel4Ideal.τ).loc Cert.Kernel4Ideal.main_v69_9) = v8 c
          ∧ r.2.mem ((c.tc : Thread Cert.Kernel4Ideal.nD Cert.Kernel4Ideal.τ).loc Cert.Kernel4Ideal.main_v69_10) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v149) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v106) = v3 c
          ∧ r.2.mem ((c.tc : Thread Cert.Reference4Ideal.nD Cert.Reference4Ideal.τ).loc Cert.Reference4Ideal.main_v112) = v4 c
          ∧ r.2.mem ((c.tc : Thread Cert.Reference4Ideal.nD Cert.Reference4Ideal.τ).loc Cert.Reference4Ideal.main_v115) = v5 c
          ∧ r.2.mem ((c.tc : Thread Cert.Reference4Ideal.nD Cert.Reference4Ideal.τ).loc Cert.Reference4Ideal.main_v121) = v6 c
          ∧ r.2.mem ((c.tc : Thread Cert.Reference4Ideal.nD Cert.Reference4Ideal.τ).loc Cert.Reference4Ideal.main_v126) = v7 c
          ∧ r.2.mem ((c.tc : Thread Cert.Reference4Ideal.nD Cert.Reference4Ideal.τ).loc Cert.Reference4Ideal.main_v151) = v8 c
          ∧ r.2.mem ((c.tc : Thread Cert.Reference4Ideal.nD Cert.Reference4Ideal.τ).loc Cert.Reference4Ideal.main_v153) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_memory : Cert.Pre_finite_memory.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_memory (hKernel2Ideal := hKernel2Ideal) (hPre_finite_memory := hPre_finite_memory)
    ∧ quiescent_Reference2Ideal (hReference2Ideal := hReference2Ideal)
    ∧ quiescent_Reference2Ideal_pre_finite_memory (hReference2Ideal := hReference2Ideal) (hPre_finite_memory := hPre_finite_memory)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal_pre_finite_memory (hKernel2Ideal := hKernel2Ideal) (hReference2Ideal := hReference2Ideal) (hPre_finite_memory := hPre_finite_memory)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_memory.lean ====
abbrev S8x8192x1024 : Shape := ⟨3, ![8, 8192, 1024]⟩
abbrev S8x8192x512 : Shape := ⟨3, ![8, 8192, 512]⟩
abbrev S8x8192x3072 : Shape := ⟨3, ![8, 8192, 3072]⟩
abbrev S8x256x512 : Shape := ⟨3, ![8, 256, 512]⟩
abbrev S512x1024 : Shape := ⟨2, ![512, 1024]⟩
abbrev S1024x1024 : Shape := ⟨2, ![1024, 1024]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S8x8192x1024 .f32) (main_arg1 : FVec F S8x8192x512 .f32) (main_arg2 : FVec F S8x8192x512 .f32) (main_arg3 : FVec F S8x8192x512 .f32) (main_arg4 : FVec F S8x8192x3072 .f32) (main_arg5 : FVec F S8x256x512 .f32) (main_arg6 : FVec F S8x256x512 .f32) (main_arg7 : FVec F S512x1024 .f32) (main_arg8 : FVec F S512x1024 .f32) (main_arg9 : FVec F S512x1024 .f32) (main_arg10 : FVec F S1024x1024 .f32) : IVec S_ 1 :=
  let main_v0 : FVec F S8x8192x512 .f32 := Host.absf main_arg3
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x256x512 .f32 := Host.absf main_arg5
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  main_v8
-- ==== Kernel.lean ====
abbrev S8x8x8192x64 : Shape := ⟨4, ![8, 8, 8192, 64]⟩
abbrev S8x2x512x64 : Shape := ⟨4, ![8, 2, 512, 64]⟩
abbrev S8x2x8192x64 : Shape := ⟨4, ![8, 2, 8192, 64]⟩
abbrev S8x8x8192x3 : Shape := ⟨4, ![8, 8, 8192, 3]⟩
abbrev S_ : Shape := ⟨0, ![]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S64 : Shape := ⟨1, ![64]⟩
abbrev S1x64 : Shape := ⟨2, ![1, 64]⟩
abbrev S8192x64 : Shape := ⟨2, ![8192, 64]⟩
abbrev S8x2x8192x128 : Shape := ⟨4, ![8, 2, 8192, 128]⟩
abbrev S8x2x8192x256 : Shape := ⟨4, ![8, 2, 8192, 256]⟩
abbrev S8x2x4x8192x3 : Shape := ⟨5, ![8, 2, 4, 8192, 3]⟩
abbrev S8x2x8192x4x3 : Shape := ⟨5, ![8, 2, 8192, 4, 3]⟩
abbrev S8x2x8192x12 : Shape := ⟨4, ![8, 2, 8192, 12]⟩
abbrev S512x256 : Shape := ⟨2, ![512, 256]⟩
abbrev S1 : Shape := ⟨1, ![1]⟩
abbrev S512 : Shape := ⟨1, ![512]⟩
abbrev S8x2x512x256 : Shape := ⟨4, ![8, 2, 512, 256]⟩
abbrev S8x2x8704x256 : Shape := ⟨4, ![8, 2, 8704, 256]⟩
abbrev S512x128 : Shape := ⟨2, ![512, 128]⟩
abbrev S8x2x512x128 : Shape := ⟨4, ![8, 2, 512, 128]⟩
abbrev S8x2x8704x128 : Shape := ⟨4, ![8, 2, 8704, 128]⟩
abbrev S128x512 : Shape := ⟨2, ![128, 512]⟩
abbrev S4x128x5x128 : Shape := ⟨4, ![4, 128, 5, 128]⟩
abbrev S4x128x640 : Shape := ⟨3, ![4, 128, 640]⟩
abbrev S8x8192x512 : Shape := ⟨3, ![8, 8192, 512]⟩
abbrev S1x4x512x64 : Shape := ⟨4, ![1, 4, 512, 64]⟩
abbrev S1x1x512x64 : Shape := ⟨4, ![1, 1, 512, 64]⟩
abbrev S1x1x8704x256 : Shape := ⟨4, ![1, 1, 8704, 256]⟩
abbrev S1x1x8704x128 : Shape := ⟨4, ![1, 1, 8704, 128]⟩
abbrev S1x1x512x128 : Shape := ⟨4, ![1, 1, 512, 128]⟩
abbrev S1x512x256 : Shape := ⟨3, ![1, 512, 256]⟩
abbrev S2048x256 : Shape := ⟨2, ![2048, 256]⟩
abbrev S2048x128 : Shape := ⟨2, ![2048, 128]⟩
abbrev S512x1 : Shape := ⟨2, ![512, 1]⟩
abbrev S2048x64 : Shape := ⟨2, ![2048, 64]⟩
abbrev S4x512x64 : Shape := ⟨3, ![4, 512, 64]⟩
abbrev S1x512 : Shape := ⟨2, ![1, 512]⟩
abbrev S512x512 : Shape := ⟨2, ![512, 512]⟩
abbrev S2048x512 : Shape := ⟨2, ![2048, 512]⟩
abbrev S2048x1 : Shape := ⟨2, ![2048, 1]⟩
abbrev S512x64 : Shape := ⟨2, ![512, 64]⟩
abbrev S2048 : Shape := ⟨1, ![2048]⟩
abbrev S128x128 : Shape := ⟨2, ![128, 128]⟩
abbrev S1x1x640x128 : Shape := ⟨4, ![1, 1, 640, 128]⟩
abbrev S640x128 : Shape := ⟨2, ![640, 128]⟩
abbrev S512x640 : Shape := ⟨2, ![512, 640]⟩
abbrev S512x384 : Shape := ⟨2, ![512, 384]⟩
abbrev S1x1x1024x256 : Shape := ⟨4, ![1, 1, 1024, 256]⟩
abbrev S1024x256 : Shape := ⟨2, ![1024, 256]⟩
abbrev S2048x1024 : Shape := ⟨2, ![2048, 1024]⟩
abbrev S1x1x1024x128 : Shape := ⟨4, ![1, 1, 1024, 128]⟩
abbrev S1024x128 : Shape := ⟨2, ![1024, 128]⟩
abbrev S1x128x640 : Shape := ⟨3, ![1, 128, 640]⟩
abbrev S128x640 : Shape := ⟨2, ![128, 640]⟩
abbrev S1x512x64 : Shape := ⟨3, ![1, 512, 64]⟩

abbrev nBuf : Space → Nat
  | .hbm => 168
  | .vmem => 23
  | .smem => 0
  | _ => 0

abbrev hbmTy0_0 (i : Nat) : BufTy := match i % 128 with
  | 0 => ⟨S8x8x8192x64, .f32⟩
  | 1 => ⟨S8x2x512x64, .f32⟩
  | 2 => ⟨S8x2x512x64, .f32⟩
  | 3 => ⟨S8x2x8192x64, .f32⟩
  | 4 => ⟨S8x2x8192x64, .f32⟩
  | 5 => ⟨S8x2x8192x64, .f32⟩
  | 6 => ⟨S8x2x8192x64, .f32⟩
  | 7 => ⟨S8x8x8192x3, .f32⟩
  | 8 => ⟨S_, .f32⟩
  | 9 => ⟨S8x8x8192x64, .f32⟩
  | 10 => ⟨S8x8x8192x64, .f32⟩
  | 11 => ⟨S_, .f32⟩
  | 12 => ⟨S_, .f32⟩
  | 13 => ⟨S_, .f32⟩
  | 14 => ⟨S8x8x8192x64, .f32⟩
  | 15 => ⟨S8x8x8192x64, .f32⟩
  | 16 => ⟨S8x8x8192x64, .bf16⟩
  | 17 => ⟨S8192, .i32⟩
  | 18 => ⟨S8192x1, .i32⟩
  | 19 => ⟨S_, .i32⟩
  | 20 => ⟨S_, .i32⟩
  | 21 => ⟨S8192x1, .i32⟩
  | 22 => ⟨S8192x1, .i32⟩
  | 23 => ⟨S8192x1, .i32⟩
  | 24 => ⟨S_, .i32⟩
  | 25 => ⟨S8192x1, .i32⟩
  | 26 => ⟨S8192x1, .i1⟩
  | 27 => ⟨S8192x1, .i32⟩
  | 28 => ⟨S8192x1, .i32⟩
  | 29 => ⟨S_, .i32⟩
  | 30 => ⟨S8192x1, .i32⟩
  | 31 => ⟨S8192x1, .i1⟩
  | 32 => ⟨S8192x1, .i1⟩
  | 33 => ⟨S_, .i32⟩
  | 34 => ⟨S8192x1, .i32⟩
  | 35 => ⟨S8192x1, .i32⟩
  | 36 => ⟨S8192x1, .i32⟩
  | 37 => ⟨S128, .i32⟩
  | 38 => ⟨S1x128, .i32⟩
  | 39 => ⟨S8192x128, .i32⟩
  | 40 => ⟨S8192x128, .i32⟩
  | 41 => ⟨S8192x128, .i1⟩
  | 42 => ⟨S8192x128, .f32⟩
  | 43 => ⟨S8192x128, .bf16⟩
  | 44 => ⟨S64, .i32⟩
  | 45 => ⟨S1x64, .i32⟩
  | 46 => ⟨S_, .bf16⟩
  | 47 => ⟨S8192x64, .bf16⟩
  | 48 => ⟨S_, .i32⟩
  | 49 => ⟨S1x64, .i32⟩
  | 50 => ⟨S1x64, .i1⟩
  | 51 => ⟨S_, .f32⟩
  | 52 => ⟨S_, .f32⟩
  | 53 => ⟨S1x64, .f32⟩
  | 54 => ⟨S1x64, .f32⟩
  | 55 => ⟨S1x64, .f32⟩
  | 56 => ⟨S1x64, .bf16⟩
  | 57 => ⟨S8192x64, .bf16⟩
  | 58 => ⟨S_, .i32⟩
  | 59 => ⟨S1x64, .i32⟩
  | 60 => ⟨S1x64, .i1⟩
  | 61 => ⟨S_, .f32⟩
  | 62 => ⟨S_, .f32⟩
  | 63 => ⟨S1x64, .f32⟩
  | 64 => ⟨S1x64, .f32⟩
  | 65 => ⟨S1x64, .f32⟩
  | 66 => ⟨S1x64, .bf16⟩
  | 67 => ⟨S8192x64, .bf16⟩
  | 68 => ⟨S8x2x8192x64, .bf16⟩
  | 69 => ⟨S8x2x8192x64, .bf16⟩
  | 70 => ⟨S8x2x8192x128, .bf16⟩
  | 71 => ⟨S8x2x8192x256, .bf16⟩
  | 72 => ⟨S8x2x8192x64, .bf16⟩
  | 73 => ⟨S8x2x8192x64, .bf16⟩
  | 74 => ⟨S8x2x8192x128, .bf16⟩
  | 75 => ⟨S8x2x8192x64, .bf16⟩
  | 76 => ⟨S8x2x8192x64, .bf16⟩
  | 77 => ⟨S8x2x8192x128, .bf16⟩
  | 78 => ⟨S8x2x8192x64, .bf16⟩
  | 79 => ⟨S8x2x8192x64, .bf16⟩
  | 80 => ⟨S8x2x8192x128, .bf16⟩
  | 81 => ⟨S8x2x4x8192x3, .f32⟩
  | 82 => ⟨S8x2x8192x4x3, .f32⟩
  | 83 => ⟨S8x2x8192x12, .f32⟩
  | 84 => ⟨S_, .f32⟩
  | 85 => ⟨S_, .f32⟩
  | 86 => ⟨S8x2x8192x128, .f32⟩
  | 87 => ⟨S8x2x8192x128, .bf16⟩
  | 88 => ⟨S8x2x512x64, .bf16⟩
  | 89 => ⟨S8x2x512x64, .bf16⟩
  | 90 => ⟨S_, .bf16⟩
  | 91 => ⟨S512x256, .bf16⟩
  | 92 => ⟨S_, .i32⟩
  | 93 => ⟨S1, .i32⟩
  | 94 => ⟨S_, .bf16⟩
  | 95 => ⟨S512, .bf16⟩
  | 96 => ⟨S512x256, .bf16⟩
  | 97 => ⟨S8x2x512x256, .bf16⟩
  | 98 => ⟨S8x2x8704x256, .bf16⟩
  | 99 => ⟨S_, .bf16⟩
  | 100 => ⟨S512x128, .bf16⟩
  | 101 => ⟨S8x2x512x128, .bf16⟩
  | 102 => ⟨S8x2x8704x128, .bf16⟩
  | 103 => ⟨S_, .bf16⟩
  | 104 => ⟨S512x128, .bf16⟩
  | 105 => ⟨S_, .i32⟩
  | 106 => ⟨S1, .i32⟩
  | 107 => ⟨S_, .bf16⟩
  | 108 => ⟨S512, .bf16⟩
  | 109 => ⟨S512x128, .bf16⟩
  | 110 => ⟨S8x2x512x128, .bf16⟩
  | 111 => ⟨S8x2x8704x128, .bf16⟩
  | 112 => ⟨S_, .bf16⟩
  | 113 => ⟨S512x128, .bf16⟩
  | 114 => ⟨S8x2x512x128, .bf16⟩
  | 115 => ⟨S8x2x8704x128, .bf16⟩
  | 116 => ⟨S128x512, .i32⟩
  | 117 => ⟨S128x512, .i32⟩
  | 118 => ⟨S_, .i32⟩
  | 119 => ⟨S128x512, .i32⟩
  | 120 => ⟨S128x512, .i32⟩
  | 121 => ⟨S_, .i32⟩
  | 122 => ⟨S128x512, .i32⟩
  | 123 => ⟨S128x512, .i32⟩
  | 124 => ⟨S128x512, .i1⟩
  | 125 => ⟨S_, .i32⟩
  | 126 => ⟨S128x512, .i32⟩
  | 127 => ⟨S128x512, .i32⟩
  | _ => ⟨S8x8x8192x64, .f32⟩

abbrev hbmTy0_1 (i : Nat) : BufTy := match i % 128 with
  | 0 => ⟨S_, .i32⟩
  | 1 => ⟨S128x512, .i32⟩
  | 2 => ⟨S128x512, .i32⟩
  | 3 => ⟨S_, .i32⟩
  | 4 => ⟨S128x512, .i32⟩
  | 5 => ⟨S128x512, .i32⟩
  | 6 => ⟨S128x512, .i1⟩
  | 7 => ⟨S128x512, .i1⟩
  | 8 => ⟨S128x512, .f32⟩
  | 9 => ⟨S128x512, .bf16⟩
  | 10 => ⟨S4x128x5x128, .i32⟩
  | 11 => ⟨S4x128x5x128, .i32⟩
  | 12 => ⟨S4x128x5x128, .i32⟩
  | 13 => ⟨S4x128x5x128, .i32⟩
  | 14 => ⟨S_, .i32⟩
  | 15 => ⟨S4x128x5x128, .i32⟩
  | 16 => ⟨S4x128x5x128, .i1⟩
  | 17 => ⟨S_, .i32⟩
  | 18 => ⟨S4x128x5x128, .i32⟩
  | 19 => ⟨S4x128x5x128, .i32⟩
  | 20 => ⟨S4x128x5x128, .i32⟩
  | 21 => ⟨S_, .i32⟩
  | 22 => ⟨S4x128x5x128, .i32⟩
  | 23 => ⟨S4x128x5x128, .i1⟩
  | 24 => ⟨S_, .i32⟩
  | 25 => ⟨S_, .i32⟩
  | 26 => ⟨S4x128x5x128, .i32⟩
  | 27 => ⟨S4x128x5x128, .i32⟩
  | 28 => ⟨S4x128x5x128, .i32⟩
  | 29 => ⟨S4x128x5x128, .i32⟩
  | 30 => ⟨S4x128x5x128, .i32⟩
  | 31 => ⟨S4x128x5x128, .i1⟩
  | 32 => ⟨S_, .i32⟩
  | 33 => ⟨S4x128x5x128, .i32⟩
  | 34 => ⟨S4x128x5x128, .i1⟩
  | 35 => ⟨S4x128x5x128, .i1⟩
  | 36 => ⟨S4x128x5x128, .f32⟩
  | 37 => ⟨S4x128x640, .f32⟩
  | 38 => ⟨S4x128x640, .bf16⟩
  | 39 => ⟨S8x8192x512, .bf16⟩
  | _ => ⟨S8x8x8192x64, .f32⟩

abbrev hbmTy (i : Nat) : BufTy := match i / 128 with
  | 0 => hbmTy0_0 i
  | 1 => hbmTy0_1 i
  | _ => ⟨S8x8x8192x64, .f32⟩

abbrev bufTy : (tb : Table) → Fin (tcTables nBuf tb) → BufTy
  | .hbm, ⟨i, _⟩ => hbmTy i
  | .local _ .vmem, ⟨0, _⟩ => ⟨S1x4x512x64, .bf16⟩
  | .local _ .vmem, ⟨1, _⟩ => ⟨S1x4x512x64, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x512x64, .bf16⟩
  | .local _ .vmem, ⟨5, _⟩ => ⟨S1x1x512x64, .bf16⟩
  | .local _ .vmem, ⟨6, _⟩ => ⟨S1x1x8704x256, .bf16⟩
  | .local _ .vmem, ⟨7, _⟩ => ⟨S1x1x8704x256, .bf16⟩
  | .local _ .vmem, ⟨8, _⟩ => ⟨S1x1x8704x128, .bf16⟩
  | .local _ .vmem, ⟨9, _⟩ => ⟨S1x1x8704x128, .bf16⟩
  | .local _ .vmem, ⟨10, _⟩ => ⟨S1x1x8704x128, .bf16⟩
  | .local _ .vmem, ⟨11, _⟩ => ⟨S1x1x8704x128, .bf16⟩
  | .local _ .vmem, ⟨12, _⟩ => ⟨S1x1x8704x128, .bf16⟩
  | .local _ .vmem, ⟨13, _⟩ => ⟨S1x1x8704x128, .bf16⟩
  | .local _ .vmem, ⟨14, _⟩ => ⟨S1x1x512x128, .bf16⟩
  | .local _ .vmem, ⟨15, _⟩ => ⟨S1x1x512x128, .bf16⟩
  | .local _ .vmem, ⟨16, _⟩ => ⟨S128x512, .bf16⟩
  | .local _ .vmem, ⟨17, _⟩ => ⟨S4x128x640, .bf16⟩
  | .local _ .vmem, ⟨18, _⟩ => ⟨S1x512x256, .bf16⟩
  | .local _ .vmem, ⟨19, _⟩ => ⟨S1x512x256, .bf16⟩
  | .local _ .vmem, ⟨20, _⟩ => ⟨S2048x256, .bf16⟩
  | .local _ .vmem, ⟨21, _⟩ => ⟨S2048x128, .f32⟩
  | .local _ .vmem, ⟨22, _⟩ => ⟨S2048x128, .f32⟩
  | _, _ => ⟨S8x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_5 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_8 : Ref sig .tc := ⟨.hbm, 84, rfl⟩
abbrev main_call3_v0 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_c_10 : Ref sig .tc := ⟨.hbm, 92, rfl⟩
abbrev main_v51 : Ref sig .tc := ⟨.hbm, 93, rfl⟩
abbrev main_cst_11 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_12 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_13 : Ref sig .tc := ⟨.hbm, 103, rfl⟩
abbrev main_v59 : Ref sig .tc := ⟨.hbm, 104, rfl⟩
abbrev main_c_14 : Ref sig .tc := ⟨.hbm, 105, rfl⟩
abbrev main_v60 : Ref sig .tc := ⟨.hbm, 106, rfl⟩
abbrev main_cst_15 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_16 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_17 : Ref sig .tc := ⟨.hbm, 118, rfl⟩
abbrev main_v70 : Ref sig .tc := ⟨.hbm, 119, rfl⟩
abbrev main_v71 : Ref sig .tc := ⟨.hbm, 120, rfl⟩
abbrev main_c_18 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_19 : Ref sig .tc := ⟨.hbm, 125, rfl⟩
abbrev main_v75 : Ref sig .tc := ⟨.hbm, 126, rfl⟩
abbrev main_v76 : Ref sig .tc := ⟨.hbm, 127, rfl⟩
abbrev main_c_20 : Ref sig .tc := ⟨.hbm, 128, rfl⟩
abbrev main_v77 : Ref sig .tc := ⟨.hbm, 129, rfl⟩
abbrev main_v78 : Ref sig .tc := ⟨.hbm, 130, rfl⟩
abbrev main_c_21 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_22 : Ref sig .tc := ⟨.hbm, 142, rfl⟩
abbrev main_v89 : Ref sig .tc := ⟨.hbm, 143, rfl⟩
abbrev main_v90 : Ref sig .tc := ⟨.hbm, 144, rfl⟩
abbrev main_c_23 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_c_24 : Ref sig .tc := ⟨.hbm, 149, rfl⟩
abbrev main_v94 : Ref sig .tc := ⟨.hbm, 150, rfl⟩
abbrev main_v95 : Ref sig .tc := ⟨.hbm, 151, rfl⟩
abbrev main_c_25 : Ref sig .tc := ⟨.hbm, 152, rfl⟩
abbrev main_c_26 : Ref sig .tc := ⟨.hbm, 153, rfl⟩
abbrev main_call4_v0 : Ref sig .tc := ⟨.hbm, 154, rfl⟩
abbrev main_call4_v1 : Ref sig .tc := ⟨.hbm, 155, rfl⟩
abbrev main_v96 : Ref sig .tc := ⟨.hbm, 156, rfl⟩
abbrev main_call5_v0 : Ref sig .tc := ⟨.hbm, 157, rfl⟩
abbrev main_v97 : Ref sig .tc := ⟨.hbm, 158, rfl⟩
abbrev main_v98 : Ref sig .tc := ⟨.hbm, 159, rfl⟩
abbrev main_c_27 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c0_i32_44 : BitVec 32 := 0#32
  let v121 : BitVec 32 := Scalar.addi v0 c0_i32_44
  v121
def k0_mult2 (i : grid0.Coords) : BitVec 32 :=
  let arg2 : BitVec 32 := BitVec.ofNat 32 (i 2).val
  let c512_i32 : BitVec 32 := 512#32
  let v0 : BitVec 32 := Scalar.muli arg2 c512_i32
  let c128_i32 : BitVec 32 := 128#32
  let v123 : BitVec 32 := Scalar.addi v0 c128_i32
  v123
def k0_mult3 (i : grid0.Coords) : BitVec 32 :=
  let arg2 : BitVec 32 := BitVec.ofNat 32 (i 2).val
  let c512_i32 : BitVec 32 := 512#32
  let v0 : BitVec 32 := Scalar.muli arg2 c512_i32
  let c256_i32 : BitVec 32 := 256#32
  let v125 : BitVec 32 := Scalar.addi v0 c256_i32
  v125
def k0_mult4 (i : grid0.Coords) : BitVec 32 :=
  let arg2 : BitVec 32 := BitVec.ofNat 32 (i 2).val
  let c512_i32 : BitVec 32 := 512#32
  let v0 : BitVec 32 := Scalar.muli arg2 c512_i32
  let c384_i32 : BitVec 32 := 384#32
  let v127 : BitVec 32 := Scalar.addi v0 c384_i32
  v127
def k0_off1 (i : grid0.Coords) (c0_i32_44 : BitVec 32) : Fin 4 → Nat :=
  let c0_50 : Index := 0#32
  let c0_51 : Index := 0#32
  let arg2 : BitVec 32 := BitVec.ofNat 32 (i 2).val
  let c512_i32 : BitVec 32 := 512#32
  let v0 : BitVec 32 := Scalar.muli arg2 c512_i32
  let v121 : BitVec 32 := Scalar.addi v0 c0_i32_44
  let v122 : BitVec 32 := v121
  let v134 : Index := Scalar.indexCast v122
  let c0_52 : Index := 0#32
  ![0, 0, v134.toNat, 0]
def k0_mult5 (i : grid0.Coords) : BitVec 32 :=
  let arg2 : BitVec 32 := BitVec.ofNat 32 (i 2).val
  let c512_i32 : BitVec 32 := 512#32
  let v0 : BitVec 32 := Scalar.muli arg2 c512_i32
  v0
def k0_off2 (i : grid0.Coords) : Fin 4 → Nat :=
  let c0_170 : Index := 0#32
  let c0_171 : Index := 0#32
  let arg2 : BitVec 32 := BitVec.ofNat 32 (i 2).val
  let c512_i32 : BitVec 32 := 512#32
  let v0 : BitVec 32 := Scalar.muli arg2 c512_i32
  let v420 : BitVec 32 := v0
  let v429 : Index := Scalar.indexCast v420
  let c0_172 : Index := 0#32
  ![0, 0, v429.toNat, 0]
def k0_off3 (i : grid0.Coords) : Fin 4 → Nat :=
  let c0_179 : Index := 0#32
  let c0_180 : Index := 0#32
  let arg2 : BitVec 32 := BitVec.ofNat 32 (i 2).val
  let c512_i32 : BitVec 32 := 512#32
  let v0 : BitVec 32 := Scalar.muli arg2 c512_i32
  let v420 : BitVec 32 := v0
  let v450 : Index := Scalar.indexCast v420
  let c0_181 : Index := 0#32
  ![0, 0, v450.toNat, 0]
@[reducible] def k0_t1_loop (i : grid0.Coords) : Scf.Loop 32 :=
  let c0_i32_201 : BitVec 32 := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_203 : BitVec 32 := 1#32
  ⟨c0_i32_201, v501, c1_i32_203⟩
def k0_mult6 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c1_i32_203 : BitVec 32 := 1#32
  let arg17 : BitVec 32 := Scf.iv c0_i32_201 c1_i32_203 k0_t1
  let v676 : BitVec 32 := Scalar.muli c2_i32_258 arg17
  let c1024_i32_259 : BitVec 32 := 1024#32
  let v677 : BitVec 32 := Scalar.muli v676 c1024_i32_259
  let v678 : BitVec 32 := Scalar.addi v479 v677
  v678
def k0_off4 (i : grid0.Coords) (k0_t1 : Fin (k0_t1_loop i).trips) : Fin 4 → Nat :=
  let c0_262 : Index := 0#32
  let c0_263 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c1_i32_203 : BitVec 32 := 1#32
  let arg17 : BitVec 32 := Scf.iv c0_i32_201 c1_i32_203 k0_t1
  let v676 : BitVec 32 := Scalar.muli c2_i32_258 arg17
  let c1024_i32_259 : BitVec 32 := 1024#32
  let v677 : BitVec 32 := Scalar.muli v676 c1024_i32_259
  let v678 : BitVec 32 := Scalar.addi v479 v677
  let v679 : BitVec 32 := v678
  let v681 : Index := Scalar.indexCast v679
  let c0_264 : Index := 0#32
  ![0, 0, v681.toNat, 0]
def k0_off5 (i : grid0.Coords) (k0_t1 : Fin (k0_t1_loop i).trips) : Fin 4 → Nat :=
  let c0_271 : Index := 0#32
  let c0_272 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c1_i32_203 : BitVec 32 := 1#32
  let arg17 : BitVec 32 := Scf.iv c0_i32_201 c1_i32_203 k0_t1
  let v676 : BitVec 32 := Scalar.muli c2_i32_258 arg17
  let c1024_i32_259 : BitVec 32 := 1024#32
  let v677 : BitVec 32 := Scalar.muli v676 c1024_i32_259
  let v678 : BitVec 32 := Scalar.addi v479 v677
  let v679 : BitVec 32 := v678
  let v698 : Index := Scalar.indexCast v679
  let c0_273 : Index := 0#32
  ![0, 0, v698.toNat, 0]
def k0_mult7 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c1_i32_203 : BitVec 32 := 1#32
  let arg17 : BitVec 32 := Scf.iv c0_i32_201 c1_i32_203 k0_t1
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  v712
def k0_off6 (i : grid0.Coords) (k0_t1 : Fin (k0_t1_loop i).trips) : Fin 4 → Nat :=
  let c0_284 : Index := 0#32
  let c0_285 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c1_i32_203 : BitVec 32 := 1#32
  let arg17 : BitVec 32 := Scf.iv c0_i32_201 c1_i32_203 k0_t1
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  let v713 : BitVec 32 := v712
  let v715 : Index := Scalar.indexCast v713
  let c0_286 : Index := 0#32
  ![0, 0, v715.toNat, 0]
def k0_off7 (i : grid0.Coords) (k0_t1 : Fin (k0_t1_loop i).trips) : Fin 4 → Nat :=
  let c0_293 : Index := 0#32
  let c0_294 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c1_i32_203 : BitVec 32 := 1#32
  let arg17 : BitVec 32 := Scf.iv c0_i32_201 c1_i32_203 k0_t1
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  let v713 : BitVec 32 := v712
  let v732 : Index := Scalar.indexCast v713
  let c0_295 : Index := 0#32
  ![0, 0, v732.toNat, 0]
@[reducible] def k0_t2_loop (i : grid0.Coords) : Scf.Loop 32 :=
  let c0_i32_201 : BitVec 32 := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let v498 : BitVec 32 := Scalar.addi c0_i32_201 v497
  let c1_i32_204 : BitVec 32 := 1#32
  ⟨v501, v498, c1_i32_204⟩
def k0_mult8 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v676 : BitVec 32 := Scalar.muli c2_i32_258 arg17
  let c1024_i32_259 : BitVec 32 := 1024#32
  let v677 : BitVec 32 := Scalar.muli v676 c1024_i32_259
  let v678 : BitVec 32 := Scalar.addi v479 v677
  v678
def k0_off8 (i : grid0.Coords) (k0_t2 : Fin (k0_t2_loop i).trips) : Fin 4 → Nat :=
  let c0_262 : Index := 0#32
  let c0_263 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v676 : BitVec 32 := Scalar.muli c2_i32_258 arg17
  let c1024_i32_259 : BitVec 32 := 1024#32
  let v677 : BitVec 32 := Scalar.muli v676 c1024_i32_259
  let v678 : BitVec 32 := Scalar.addi v479 v677
  let v679 : BitVec 32 := v678
  let v681 : Index := Scalar.indexCast v679
  let c0_264 : Index := 0#32
  ![0, 0, v681.toNat, 0]
def k0_off9 (i : grid0.Coords) (k0_t2 : Fin (k0_t2_loop i).trips) : Fin 4 → Nat :=
  let c0_271 : Index := 0#32
  let c0_272 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_258 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v676 : BitVec 32 := Scalar.muli c2_i32_258 arg17
  let c1024_i32_259 : BitVec 32 := 1024#32
  let v677 : BitVec 32 := Scalar.muli v676 c1024_i32_259
  let v678 : BitVec 32 := Scalar.addi v479 v677
  let v679 : BitVec 32 := v678
  let v698 : Index := Scalar.indexCast v679
  let c0_273 : Index := 0#32
  ![0, 0, v698.toNat, 0]
def k0_mult9 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  v712
def k0_off10 (i : grid0.Coords) (k0_t2 : Fin (k0_t2_loop i).trips) : Fin 4 → Nat :=
  let c0_284 : Index := 0#32
  let c0_285 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  let v713 : BitVec 32 := v712
  let v715 : Index := Scalar.indexCast v713
  let c0_286 : Index := 0#32
  ![0, 0, v715.toNat, 0]
def k0_off11 (i : grid0.Coords) (k0_t2 : Fin (k0_t2_loop i).trips) : Fin 4 → Nat :=
  let c0_293 : Index := 0#32
  let c0_294 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c2_i32_279 : BitVec 32 := 2#32
  let c0_i32_201 : BitVec 32 := 0#32
  let c0_i32_194 : BitVec 32 := 0#32
  let v481 : BitVec 1 := Scalar.cmpi .sgt v477 c0_i32_194
  let v482 : BitVec 32 := Scalar.extui v481
  let c0_i32_195 : BitVec 32 := 0#32
  let v483 : BitVec 1 := Scalar.cmpi .slt v477 c0_i32_195
  let v484 : BitVec 32 := Scalar.extui v483
  let v485 : BitVec 32 := Scalar.subi v482 v484
  let c2_i32 : BitVec 32 := 2#32
  let c0_i32_196 : BitVec 32 := 0#32
  let v486 : BitVec 1 := Scalar.cmpi .sgt c2_i32 c0_i32_196
  let v487 : BitVec 32 := Scalar.extui v486
  let c0_i32_197 : BitVec 32 := 0#32
  let v488 : BitVec 1 := Scalar.cmpi .slt c2_i32 c0_i32_197
  let v489 : BitVec 32 := Scalar.extui v488
  let v490 : BitVec 32 := Scalar.subi v487 v489
  let v491 : BitVec 1 := Scalar.cmpi .ne v485 v490
  let v492 : BitVec 32 := Scalar.remsi v477 c2_i32
  let c0_i32_198 : BitVec 32 := 0#32
  let v493 : BitVec 1 := Scalar.cmpi .ne v492 c0_i32_198
  let v494 : BitVec 1 := Scalar.andi v491 v493
  let v480 : BitVec 32 := Scalar.divsi v477 c2_i32
  let c1_i32_199 : BitVec 32 := 1#32
  let v495 : BitVec 32 := Scalar.subi v480 c1_i32_199
  let v496 : BitVec 32 := Scalar.select v494 v495 v480
  let v497 : BitVec 32 := Scalar.subi v496 c0_i32_201
  let c1_i32_202 : BitVec 32 := 1#32
  let v499 : BitVec 32 := Scalar.divsi v497 c1_i32_202
  let v500 : BitVec 32 := Scalar.muli v499 c1_i32_202
  let v501 : BitVec 32 := Scalar.addi c0_i32_201 v500
  let c1_i32_204 : BitVec 32 := 1#32
  let arg17 : BitVec 32 := Scf.iv v501 c1_i32_204 k0_t2
  let v709 : BitVec 32 := Scalar.muli c2_i32_279 arg17
  let c1_i32_280 : BitVec 32 := 1#32
  let v710 : BitVec 32 := Scalar.addi v709 c1_i32_280
  let c1024_i32_281 : BitVec 32 := 1024#32
  let v711 : BitVec 32 := Scalar.muli v710 c1024_i32_281
  let v712 : BitVec 32 := Scalar.addi v479 v711
  let v713 : BitVec 32 := v712
  let v732 : Index := Scalar.indexCast v713
  let c0_295 : Index := 0#32
  ![0, 0, v732.toNat, 0]
def k0_cond1 (i : grid0.Coords) : BitVec 1 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c2_i32_205 : BitVec 32 := 2#32
  let c0_i32_206 : BitVec 32 := 0#32
  let v502 : BitVec 1 := Scalar.cmpi .eq c2_i32_205 c0_i32_206
  let c1_i32_207 : BitVec 32 := 1#32
  let v503 : BitVec 32 := Scalar.select v502 c1_i32_207 c2_i32_205
  let v504 : BitVec 32 := Scalar.remsi v477 v503
  let c0_i32_209 : BitVec 32 := 0#32
  let v506 : BitVec 1 := Scalar.cmpi .slt v504 c0_i32_209
  let c0_i32_210 : BitVec 32 := 0#32
  let v507 : BitVec 1 := Scalar.cmpi .slt v503 c0_i32_210
  let v508 : BitVec 1 := Scalar.xori v506 v507
  let c0_i32_208 : BitVec 32 := 0#32
  let v505 : BitVec 1 := Scalar.cmpi .ne v504 c0_i32_208
  let v509 : BitVec 1 := Scalar.andi v508 v505
  let v510 : BitVec 32 := Scalar.addi v504 v503
  let v511 : BitVec 32 := Scalar.select v509 v510 v504
  let c1_i32_211 : BitVec 32 := 1#32
  let v512 : BitVec 1 := Scalar.cmpi .eq v511 c1_i32_211
  let v513 : BitVec 32 := Scalar.extui v512
  let c0_i32_212 : BitVec 32 := 0#32
  let v514 : BitVec 1 := Scalar.cmpi .ne v513 c0_i32_212
  v514

def k0_mult10 (i : grid0.Coords) : BitVec 32 :=
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c1_i32_258 : BitVec 32 := 1#32
  let v676 : BitVec 32 := Scalar.subi v477 c1_i32_258
  let c1024_i32_259 : BitVec 32 := 1024#32
  let v677 : BitVec 32 := Scalar.muli v676 c1024_i32_259
  let v678 : BitVec 32 := Scalar.addi v479 v677
  v678
def k0_off12 (i : grid0.Coords) : Fin 4 → Nat :=
  let c0_262 : Index := 0#32
  let c0_263 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c1_i32_258 : BitVec 32 := 1#32
  let v676 : BitVec 32 := Scalar.subi v477 c1_i32_258
  let c1024_i32_259 : BitVec 32 := 1024#32
  let v677 : BitVec 32 := Scalar.muli v676 c1024_i32_259
  let v678 : BitVec 32 := Scalar.addi v479 v677
  let v679 : BitVec 32 := v678
  let v681 : Index := Scalar.indexCast v679
  let c0_264 : Index := 0#32
  ![0, 0, v681.toNat, 0]
def k0_off13 (i : grid0.Coords) : Fin 4 → Nat :=
  let c0_271 : Index := 0#32
  let c0_272 : Index := 0#32
  let arg2 : BitVec 32 := BitVec.ofNat 32 (i 2).val
  let c512_i32 : BitVec 32 := 512#32
  let v0 : BitVec 32 := Scalar.muli arg2 c512_i32
  let c0_i32_187 : BitVec 32 := 0#32
  let v462 : BitVec 1 := Scalar.cmpi .sgt v0 c0_i32_187
  let v463 : BitVec 32 := Scalar.extui v462
  let c0_i32_188 : BitVec 32 := 0#32
  let v464 : BitVec 1 := Scalar.cmpi .slt v0 c0_i32_188
  let v465 : BitVec 32 := Scalar.extui v464
  let v466 : BitVec 32 := Scalar.subi v463 v465
  let c1024_i32 : BitVec 32 := 1024#32
  let c0_i32_189 : BitVec 32 := 0#32
  let v467 : BitVec 1 := Scalar.cmpi .sgt c1024_i32 c0_i32_189
  let v468 : BitVec 32 := Scalar.extui v467
  let c0_i32_190 : BitVec 32 := 0#32
  let v469 : BitVec 1 := Scalar.cmpi .slt c1024_i32 c0_i32_190
  let v470 : BitVec 32 := Scalar.extui v469
  let v471 : BitVec 32 := Scalar.subi v468 v470
  let v472 : BitVec 1 := Scalar.cmpi .ne v466 v471
  let v473 : BitVec 32 := Scalar.remsi v0 c1024_i32
  let c0_i32_191 : BitVec 32 := 0#32
  let v474 : BitVec 1 := Scalar.cmpi .ne v473 c0_i32_191
  let v475 : BitVec 1 := Scalar.andi v472 v474
  let v461 : BitVec 32 := Scalar.divsi v0 c1024_i32
  let c1_i32_192 : BitVec 32 := 1#32
  let v476 : BitVec 32 := Scalar.subi v461 c1_i32_192
  let v477 : BitVec 32 := Scalar.select v475 v476 v461
  let c1024_i32_193 : BitVec 32 := 1024#32
  let v478 : BitVec 32 := Scalar.muli v477 c1024_i32_193
  let v479 : BitVec 32 := Scalar.subi v0 v478
  let c1_i32_258 : BitVec 32 := 1#32
  let v676 : BitVec 32 := Scalar.subi v477 c1_i32_258
  let c1024_i32_259 : BitVec 32 := 1024#32
  let v677 : BitVec 32 := Scalar.muli v676 c1024_i32_259
  let v678 : BitVec 32 := Scalar.addi v479 v677
  let v679 : BitVec 32 := v678
  let v698 : Index := Scalar.indexCast v679
  let c0_273 : Index := 0#32
  ![0, 0, v698.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8704x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8704x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8704x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8704x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4x128x640 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | "sel" => some ⊥
  | _ => none
-- ==== ReferenceIdeal.lean ====
abbrev S8x8x8192x64 : Shape := ⟨4, ![8, 8, 8192, 64]⟩
abbrev S8x2x512x64 : Shape := ⟨4, ![8, 2, 512, 64]⟩
abbrev S8x2x8192x64 : Shape := ⟨4, ![8, 2, 8192, 64]⟩
abbrev S8x8x8192x3 : Shape := ⟨4, ![8, 8, 8192, 3]⟩
abbrev S8x2x511x64 : Shape := ⟨4, ![8, 2, 511, 64]⟩
abbrev S8x2x4x8192x64 : Shape := ⟨5, ![8, 2, 4, 8192, 64]⟩
abbrev S_ : Shape := ⟨0, ![]⟩
abbrev S8x2x4x8192x3 : Shape := ⟨5, ![8, 2, 4, 8192, 3]⟩
abbrev S8x2x128x64x64 : Shape := ⟨5, ![8, 2, 128, 64, 64]⟩
abbrev S8192 : Shape := ⟨1, ![8192]⟩
abbrev S511 : Shape := ⟨1, ![511]⟩
abbrev S128 : Shape := ⟨1, ![128]⟩
abbrev S8 : Shape := ⟨1, ![8]⟩
abbrev S8x1x1x1 : Shape := ⟨4, ![8, 1, 1, 1]⟩
abbrev S2 : Shape := ⟨1, ![2]⟩
abbrev S1x2x1x1 : Shape := ⟨4, ![1, 2, 1, 1]⟩
abbrev S8x2x4x8192x511 : Shape := ⟨5, ![8, 2, 4, 8192, 511]⟩
abbrev S1x511 : Shape := ⟨2, ![1, 511]⟩
abbrev S8192x1 : Shape := ⟨2, ![8192, 1]⟩
abbrev S8192x511 : Shape := ⟨2, ![8192, 511]⟩
abbrev S8x2x4x8192 : Shape := ⟨4, ![8, 2, 4, 8192]⟩
abbrev S8x2x4x8192x1 : Shape := ⟨5, ![8, 2, 4, 8192, 1]⟩
abbrev S8x2x8192x511 : Shape := ⟨4, ![8, 2, 8192, 511]⟩
abbrev S8x2x8192x516 : Shape := ⟨4, ![8, 2, 8192, 516]⟩
abbrev S8x2x8192x129x4 : Shape := ⟨5, ![8, 2, 8192, 129, 4]⟩
abbrev S8x2x8192x128x4 : Shape := ⟨5, ![8, 2, 8192, 128, 4]⟩
abbrev S8x2x8192x128 : Shape := ⟨4, ![8, 2, 8192, 128]⟩
abbrev S8x2x8192x128x1 : Shape := ⟨5, ![8, 2, 8192, 128, 1]⟩
abbrev S1x128 : Shape := ⟨2, ![1, 128]⟩
abbrev S8192x128 : Shape := ⟨2, ![8192, 128]⟩
abbrev S8x2x8192x16 : Shape := ⟨4, ![8, 2, 8192, 16]⟩
abbrev S8x2x8192x16x1 : Shape := ⟨5, ![8, 2, 8192, 16, 1]⟩
abbrev S8x2x8192x16x3 : Shape := ⟨5, ![8, 2, 8192, 16, 3]⟩
abbrev S8x2x8192x16x64x64 : Shape := ⟨6, ![8, 2, 8192, 16, 64, 64]⟩
abbrev S64 : Shape := ⟨1, ![64]⟩
abbrev S1x1x1x1x64 : Shape := ⟨5, ![1, 1, 1, 1, 64]⟩
abbrev S8x2x8192x16x64 : Shape := ⟨5, ![8, 2, 8192, 16, 64]⟩
abbrev S8x2x8192x16x64x4 : Shape := ⟨6, ![8, 2, 8192, 16, 64, 4]⟩
abbrev S8x2x4x8192x16x64 : Shape := ⟨6, ![8, 2, 4, 8192, 16, 64]⟩
abbrev S8x2x4x8192x1024 : Shape := ⟨5, ![8, 2, 4, 8192, 1024]⟩
abbrev S8192x1x1 : Shape := ⟨3, ![8192, 1, 1]⟩
abbrev S1x1x8192x1x1 : Shape := ⟨5, ![1, 1, 8192, 1, 1]⟩
abbrev S8x2x1x8192x1024 : Shape := ⟨5, ![8, 2, 1, 8192, 1024]⟩
abbrev S8x2x8192x64x4 : Shape := ⟨5, ![8, 2, 8192, 64, 4]⟩
abbrev S1x8192 : Shape := ⟨2, ![1, 8192]⟩
abbrev S8192x8192 : Shape := ⟨2, ![8192, 8192]⟩
abbrev S8x2x4x8192x8192 : Shape := ⟨5, ![8, 2, 4, 8192, 8192]⟩
abbrev S8x8192x2x4x64 : Shape := ⟨5, ![8, 8192, 2, 4, 64]⟩
abbrev S8x8192x512 : Shape := ⟨3, ![8, 8192, 512]⟩

abbrev nBuf : Space → Nat
  | .hbm => 304
  | .vmem => 0
  | .smem => 0
  | _ => 0

abbrev hbmTy0_0 (i : Nat) : BufTy := match i % 128 with
  | 0 => ⟨S8x8x8192x64, .f32⟩
  | 1 => ⟨S8x2x512x64, .f32⟩
  | 2 => ⟨S8x2x512x64, .f32⟩
  | 3 => ⟨S8x2x8192x64, .f32⟩
  | 4 => ⟨S8x2x8192x64, .f32⟩
  | 5 => ⟨S8x2x8192x64, .f32⟩
  | 6 => ⟨S8x2x8192x64, .f32⟩
  | 7 => ⟨S8x8x8192x3, .f32⟩
  | 8 => ⟨S8x2x511x64, .f32⟩
  | 9 => ⟨S8x2x511x64, .f32⟩
  | 10 => ⟨S8x2x4x8192x64, .f32⟩
  | 11 => ⟨S_, .f32⟩
  | 12 => ⟨S8x2x4x8192x64, .f32⟩
  | 13 => ⟨S8x2x4x8192x64, .f32⟩
  | 14 => ⟨S8x2x4x8192x3, .f32⟩
  | 15 => ⟨S8x2x128x64x64, .f32⟩
  | 16 => ⟨S8x2x128x64x64, .f32⟩
  | 17 => ⟨S8192, .i32⟩
  | 18 => ⟨S511, .i32⟩
  | 19 => ⟨S_, .i32⟩
  | 20 => ⟨S511, .i32⟩
  | 21 => ⟨S511, .i32⟩
  | 22 => ⟨S_, .i32⟩
  | 23 => ⟨S511, .i32⟩
  | 24 => ⟨S511, .i32⟩
  | 25 => ⟨S_, .i32⟩
  | 26 => ⟨S511, .i32⟩
  | 27 => ⟨S511, .i32⟩
  | 28 => ⟨S128, .i32⟩
  | 29 => ⟨S8, .i32⟩
  | 30 => ⟨S8x1x1x1, .i32⟩
  | 31 => ⟨S2, .i32⟩
  | 32 => ⟨S1x2x1x1, .i32⟩
  | 33 => ⟨S8x2x4x8192x511, .f32⟩
  | 34 => ⟨S1x511, .i32⟩
  | 35 => ⟨S8192x1, .i32⟩
  | 36 => ⟨S8192x511, .i32⟩
  | 37 => ⟨S8192x511, .i32⟩
  | 38 => ⟨S8192x511, .i1⟩
  | 39 => ⟨S_, .f32⟩
  | 40 => ⟨S_, .f32⟩
  | 41 => ⟨S8x2x4x8192x511, .i1⟩
  | 42 => ⟨S8x2x4x8192x511, .f32⟩
  | 43 => ⟨S8x2x4x8192x511, .f32⟩
  | 44 => ⟨S_, .f32⟩
  | 45 => ⟨S8x2x4x8192, .f32⟩
  | 46 => ⟨S8x2x4x8192x1, .f32⟩
  | 47 => ⟨S_, .f32⟩
  | 48 => ⟨S8x2x4x8192x1, .f32⟩
  | 49 => ⟨S8x2x4x8192x1, .i1⟩
  | 50 => ⟨S_, .f32⟩
  | 51 => ⟨S_, .f32⟩
  | 52 => ⟨S8x2x4x8192x1, .f32⟩
  | 53 => ⟨S8x2x4x8192x1, .f32⟩
  | 54 => ⟨S8x2x4x8192x511, .f32⟩
  | 55 => ⟨S8x2x4x8192x511, .f32⟩
  | 56 => ⟨S8x2x4x8192x511, .f32⟩
  | 57 => ⟨S_, .f32⟩
  | 58 => ⟨S8x2x4x8192, .f32⟩
  | 59 => ⟨S8x2x4x8192x1, .f32⟩
  | 60 => ⟨S_, .f32⟩
  | 61 => ⟨S8x2x4x8192x1, .f32⟩
  | 62 => ⟨S8x2x4x8192x1, .i1⟩
  | 63 => ⟨S_, .f32⟩
  | 64 => ⟨S_, .f32⟩
  | 65 => ⟨S8x2x4x8192x1, .f32⟩
  | 66 => ⟨S8x2x4x8192x1, .f32⟩
  | 67 => ⟨S8x2x4x8192x511, .f32⟩
  | 68 => ⟨S8x2x4x8192x511, .f32⟩
  | 69 => ⟨S8x2x4x8192x64, .f32⟩
  | 70 => ⟨S_, .f32⟩
  | 71 => ⟨S8x2x8192x511, .f32⟩
  | 72 => ⟨S_, .i32⟩
  | 73 => ⟨S_, .f32⟩
  | 74 => ⟨S8x2x8192x516, .f32⟩
  | 75 => ⟨S8x2x8192x129x4, .f32⟩
  | 76 => ⟨S8x2x8192x128x4, .f32⟩
  | 77 => ⟨S_, .f32⟩
  | 78 => ⟨S8x2x8192x128, .f32⟩
  | 79 => ⟨S8x2x8192x128x1, .f32⟩
  | 80 => ⟨S8x2x8192x128, .f32⟩
  | 81 => ⟨S8x2x8192x128, .f32⟩
  | 82 => ⟨S_, .i32⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i1⟩
  | 90 => ⟨S8192, .i32⟩
  | 91 => ⟨S8192, .i32⟩
  | 92 => ⟨S_, .i32⟩
  | 93 => ⟨S8192, .i32⟩
  | 94 => ⟨S8192, .i1⟩
  | 95 => ⟨S8192, .i1⟩
  | 96 => ⟨S_, .i32⟩
  | 97 => ⟨S8192, .i32⟩
  | 98 => ⟨S8192, .i32⟩
  | 99 => ⟨S8192, .i32⟩
  | 100 => ⟨S1x128, .i32⟩
  | 101 => ⟨S_, .i32⟩
  | 102 => ⟨S1x128, .i32⟩
  | 103 => ⟨S1x128, .i1⟩
  | 104 => ⟨S1x128, .i32⟩
  | 105 => ⟨S8192x1, .i32⟩
  | 106 => ⟨S8192x128, .i32⟩
  | 107 => ⟨S8192x128, .i32⟩
  | 108 => ⟨S8192x128, .i1⟩
  | 109 => ⟨S8192x128, .i1⟩
  | 110 => ⟨S8192x128, .i1⟩
  | 111 => ⟨S1x128, .i32⟩
  | 112 => ⟨S8192x1, .i32⟩
  | 113 => ⟨S_, .i32⟩
  | 114 => ⟨S8192x1, .i32⟩
  | 115 => ⟨S8192x1, .i32⟩
  | 116 => ⟨S8192x128, .i32⟩
  | 117 => ⟨S8192x128, .i32⟩
  | 118 => ⟨S8192x128, .i1⟩
  | 119 => ⟨S8192x128, .i1⟩
  | 120 => ⟨S1x128, .i32⟩
  | 121 => ⟨S_, .i32⟩
  | 122 => ⟨S1x128, .i32⟩
  | 123 => ⟨S1x128, .i32⟩
  | 124 => ⟨S8192x1, .i32⟩
  | 125 => ⟨S8192x128, .i32⟩
  | 126 => ⟨S8192x128, .i32⟩
  | 127 => ⟨S8192x128, .i1⟩
  | _ => ⟨S8x8x8192x64, .f32⟩

abbrev hbmTy0_1 (i : Nat) : BufTy := match i % 128 with
  | 0 => ⟨S_, .f32⟩
  | 1 => ⟨S_, .f32⟩
  | 2 => ⟨S8x2x8192x128, .i1⟩
  | 3 => ⟨S8x2x8192x128, .f32⟩
  | 4 => ⟨S8x2x8192x128, .f32⟩
  | 5 => ⟨S_, .f32⟩
  | 6 => ⟨S_, .f32⟩
  | 7 => ⟨S8x2x8192x128, .i1⟩
  | 8 => ⟨S8x2x8192x128, .f32⟩
  | 9 => ⟨S8x2x8192x128, .f32⟩
  | 10 => ⟨S8x2x8192x16, .f32⟩
  | 11 => ⟨S8x2x8192x16, .i32⟩
  | 12 => ⟨S_, .i32⟩
  | 13 => ⟨S8x1x1x1, .i32⟩
  | 14 => ⟨S8x1x1x1, .i1⟩
  | 15 => ⟨S_, .i32⟩
  | 16 => ⟨S8x1x1x1, .i32⟩
  | 17 => ⟨S8x1x1x1, .i32⟩
  | 18 => ⟨S8x1x1x1, .i32⟩
  | 19 => ⟨S_, .i32⟩
  | 20 => ⟨S1x2x1x1, .i32⟩
  | 21 => ⟨S1x2x1x1, .i1⟩
  | 22 => ⟨S_, .i32⟩
  | 23 => ⟨S1x2x1x1, .i32⟩
  | 24 => ⟨S1x2x1x1, .i32⟩
  | 25 => ⟨S1x2x1x1, .i32⟩
  | 26 => ⟨S_, .i32⟩
  | 27 => ⟨S8x2x8192x16, .i32⟩
  | 28 => ⟨S8x2x8192x16, .i1⟩
  | 29 => ⟨S_, .i32⟩
  | 30 => ⟨S8x2x8192x16, .i32⟩
  | 31 => ⟨S8x2x8192x16, .i32⟩
  | 32 => ⟨S8x2x8192x16, .i32⟩
  | 33 => ⟨S8x2x8192x16, .i32⟩
  | 34 => ⟨S8x2x8192x16, .i32⟩
  | 35 => ⟨S8x2x8192x16x1, .i32⟩
  | 36 => ⟨S8x2x8192x16x1, .i32⟩
  | 37 => ⟨S8x2x8192x16x1, .i32⟩
  | 38 => ⟨S8x2x8192x16x3, .i32⟩
  | 39 => ⟨S8x2x8192x16x64x64, .f32⟩
  | 40 => ⟨S_, .i32⟩
  | 41 => ⟨S8x1x1x1, .i32⟩
  | 42 => ⟨S8x1x1x1, .i1⟩
  | 43 => ⟨S_, .i32⟩
  | 44 => ⟨S8x1x1x1, .i32⟩
  | 45 => ⟨S8x1x1x1, .i32⟩
  | 46 => ⟨S8x1x1x1, .i32⟩
  | 47 => ⟨S_, .i32⟩
  | 48 => ⟨S1x2x1x1, .i32⟩
  | 49 => ⟨S1x2x1x1, .i1⟩
  | 50 => ⟨S_, .i32⟩
  | 51 => ⟨S1x2x1x1, .i32⟩
  | 52 => ⟨S1x2x1x1, .i32⟩
  | 53 => ⟨S1x2x1x1, .i32⟩
  | 54 => ⟨S_, .i32⟩
  | 55 => ⟨S8x2x8192x16, .i32⟩
  | 56 => ⟨S8x2x8192x16, .i1⟩
  | 57 => ⟨S_, .i32⟩
  | 58 => ⟨S8x2x8192x16, .i32⟩
  | 59 => ⟨S8x2x8192x16, .i32⟩
  | 60 => ⟨S8x2x8192x16, .i32⟩
  | 61 => ⟨S8x2x8192x16, .i32⟩
  | 62 => ⟨S8x2x8192x16, .i32⟩
  | 63 => ⟨S8x2x8192x16x1, .i32⟩
  | 64 => ⟨S8x2x8192x16x1, .i32⟩
  | 65 => ⟨S8x2x8192x16x1, .i32⟩
  | 66 => ⟨S8x2x8192x16x3, .i32⟩
  | 67 => ⟨S8x2x8192x16x64x64, .f32⟩
  | 68 => ⟨S8x2x8192x16x1, .i32⟩
  | 69 => ⟨S_, .i32⟩
  | 70 => ⟨S8x2x8192x16x1, .i32⟩
  | 71 => ⟨S8x2x8192x16x1, .i32⟩
  | 72 => ⟨S64, .i32⟩
  | 73 => ⟨S1x1x1x1x64, .i32⟩
  | 74 => ⟨S8x2x8192x16x64, .i32⟩
  | 75 => ⟨S8x2x8192x16x64, .i32⟩
  | 76 => ⟨S8x2x8192x16x64, .i32⟩
  | 77 => ⟨S8x2x8192x16x64x4, .f32⟩
  | 78 => ⟨S8x2x4x8192x16x64, .f32⟩
  | 79 => ⟨S8x2x4x8192x1024, .f32⟩
  | 80 => ⟨S8192x1x1, .i32⟩
  | 81 => ⟨S1x1x8192x1x1, .i32⟩
  | 82 => ⟨S8x2x8192x16x64, .i32⟩
  | 83 => ⟨S8x2x8192x16x64, .i1⟩
  | 84 => ⟨S8x2x1x8192x1024, .i1⟩
  | 85 => ⟨S_, .f32⟩
  | 86 => ⟨S_, .f32⟩
  | 87 => ⟨S8x2x4x8192x1024, .i1⟩
  | 88 => ⟨S8x2x4x8192x1024, .f32⟩
  | 89 => ⟨S8x2x4x8192x1024, .f32⟩
  | 90 => ⟨S_, .f32⟩
  | 91 => ⟨S8x2x4x8192, .f32⟩
  | 92 => ⟨S8x2x4x8192x1, .f32⟩
  | 93 => ⟨S_, .f32⟩
  | 94 => ⟨S8x2x4x8192x1, .f32⟩
  | 95 => ⟨S8x2x4x8192x1, .i1⟩
  | 96 => ⟨S_, .f32⟩
  | 97 => ⟨S_, .f32⟩
  | 98 => ⟨S8x2x4x8192x1, .f32⟩
  | 99 => ⟨S8x2x4x8192x1, .f32⟩
  | 100 => ⟨S8x2x4x8192x1024, .f32⟩
  | 101 => ⟨S8x2x4x8192x1024, .f32⟩
  | 102 => ⟨S8x2x4x8192x1024, .f32⟩
  | 103 => ⟨S_, .f32⟩
  | 104 => ⟨S8x2x4x8192, .f32⟩
  | 105 => ⟨S8x2x4x8192x1, .f32⟩
  | 106 => ⟨S_, .f32⟩
  | 107 => ⟨S8x2x4x8192x1, .f32⟩
  | 108 => ⟨S8x2x4x8192x1, .i1⟩
  | 109 => ⟨S_, .f32⟩
  | 110 => ⟨S_, .f32⟩
  | 111 => ⟨S8x2x4x8192x1, .f32⟩
  | 112 => ⟨S8x2x4x8192x1, .f32⟩
  | 113 => ⟨S8x2x4x8192x1024, .f32⟩
  | 114 => ⟨S8x2x4x8192x1024, .f32⟩
  | 115 => ⟨S8x2x4x8192x16x64, .f32⟩
  | 116 => ⟨S8x2x8192x64x4, .f32⟩
  | 117 => ⟨S8x2x4x8192x64, .f32⟩
  | 118 => ⟨S8192x1, .i32⟩
  | 119 => ⟨S1x8192, .i32⟩
  | 120 => ⟨S8192x8192, .i32⟩
  | 121 => ⟨S8192x8192, .i32⟩
  | 122 => ⟨S8192x8192, .i32⟩
  | 123 => ⟨S_, .i32⟩
  | 124 => ⟨S8192x8192, .i32⟩
  | 125 => ⟨S8192x8192, .i1⟩
  | 126 => ⟨S_, .i32⟩
  | 127 => ⟨S8192x8192, .i32⟩
  | _ => ⟨S8x8x8192x64, .f32⟩

abbrev hbmTy0_2 (i : Nat) : BufTy := match i % 128 with
  | 0 => ⟨S8192x8192, .i1⟩
  | 1 => ⟨S8192x8192, .i1⟩
  | 2 => ⟨S8x2x4x8192x8192, .f32⟩
  | 3 => ⟨S_, .f32⟩
  | 4 => ⟨S_, .f32⟩
  | 5 => ⟨S8x2x4x8192x8192, .i1⟩
  | 6 => ⟨S8x2x4x8192x8192, .f32⟩
  | 7 => ⟨S8x2x4x8192x8192, .f32⟩
  | 8 => ⟨S_, .f32⟩
  | 9 => ⟨S8x2x4x8192, .f32⟩
  | 10 => ⟨S8x2x4x8192x1, .f32⟩
  | 11 => ⟨S_, .f32⟩
  | 12 => ⟨S8x2x4x8192x1, .f32⟩
  | 13 => ⟨S8x2x4x8192x1, .i1⟩
  | 14 => ⟨S_, .f32⟩
  | 15 => ⟨S_, .f32⟩
  | 16 => ⟨S8x2x4x8192x1, .f32⟩
  | 17 => ⟨S8x2x4x8192x1, .f32⟩
  | 18 => ⟨S8x2x4x8192x8192, .f32⟩
  | 19 => ⟨S8x2x4x8192x8192, .f32⟩
  | 20 => ⟨S8x2x4x8192x8192, .f32⟩
  | 21 => ⟨S_, .f32⟩
  | 22 => ⟨S8x2x4x8192, .f32⟩
  | 23 => ⟨S8x2x4x8192x1, .f32⟩
  | 24 => ⟨S_, .f32⟩
  | 25 => ⟨S8x2x4x8192x1, .f32⟩
  | 26 => ⟨S8x2x4x8192x1, .i1⟩
  | 27 => ⟨S_, .f32⟩
  | 28 => ⟨S_, .f32⟩
  | 29 => ⟨S8x2x4x8192x1, .f32⟩
  | 30 => ⟨S8x2x4x8192x1, .f32⟩
  | 31 => ⟨S8x2x4x8192x8192, .f32⟩
  | 32 => ⟨S8x2x4x8192x8192, .f32⟩
  | 33 => ⟨S8x2x4x8192x64, .f32⟩
  | 34 => ⟨S8x2x4x8192x1, .f32⟩
  | 35 => ⟨S8x2x4x8192x64, .f32⟩
  | 36 => ⟨S8x2x4x8192x64, .f32⟩
  | 37 => ⟨S8x2x4x8192x1, .f32⟩
  | 38 => ⟨S8x2x4x8192x64, .f32⟩
  | 39 => ⟨S8x2x4x8192x64, .f32⟩
  | 40 => ⟨S8x2x4x8192x64, .f32⟩
  | 41 => ⟨S8x2x4x8192x1, .f32⟩
  | 42 => ⟨S8x2x4x8192x64, .f32⟩
  | 43 => ⟨S8x2x4x8192x64, .f32⟩
  | 44 => ⟨S8x2x4x8192x64, .f32⟩
  | 45 => ⟨S8x8192x2x4x64, .f32⟩
  | 46 => ⟨S8x8192x512, .f32⟩
  | 47 => ⟨S8x8192x512, .bf16⟩
  | _ => ⟨S8x8x8192x64, .f32⟩

abbrev hbmTy (i : Nat) : BufTy := match i / 128 with
  | 0 => hbmTy0_0 i
  | 1 => hbmTy0_1 i
  | 2 => hbmTy0_2 i
  | _ => ⟨S8x8x8192x64, .f32⟩

abbrev bufTy : (tb : Table) → Fin (tcTables nBuf tb) → BufTy
  | .hbm, ⟨i, _⟩ => hbmTy i
  | _, _ => ⟨S8x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_c_10 : Ref sig .tc := ⟨.hbm, 72, rfl⟩
abbrev main_call3_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_c : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_0 : Ref sig .tc := ⟨.hbm, 96, rfl⟩
abbrev main_call4_v12 : Ref sig .tc := ⟨.hbm, 97, rfl⟩
abbrev main_call4_v13 : Ref sig .tc := ⟨.hbm, 98, rfl⟩
abbrev main_v52 : Ref sig .tc := ⟨.hbm, 99, rfl⟩
abbrev main_v53 : Ref sig .tc := ⟨.hbm, 100, rfl⟩
abbrev main_c_13 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_14 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_15 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_16 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v78 : Ref sig .tc := ⟨.hbm, 132, rfl⟩
abbrev main_cst_17 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v79 : Ref sig .tc := ⟨.hbm, 137, rfl⟩
abbrev main_values : Ref sig .tc := ⟨.hbm, 138, rfl⟩
abbrev main_indices : Ref sig .tc := ⟨.hbm, 139, rfl⟩
abbrev main_c_18 : Ref sig .tc := ⟨.hbm, 140, rfl⟩
abbrev main_v80 : Ref sig .tc := ⟨.hbm, 141, rfl⟩
abbrev main_v81 : Ref sig .tc := ⟨.hbm, 142, rfl⟩
abbrev main_c_19 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_20 : Ref sig .tc := ⟨.hbm, 147, rfl⟩
abbrev main_v85 : Ref sig .tc := ⟨.hbm, 148, rfl⟩
abbrev main_v86 : Ref sig .tc := ⟨.hbm, 149, rfl⟩
abbrev main_c_21 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_c_22 : Ref sig .tc := ⟨.hbm, 154, rfl⟩
abbrev main_v90 : Ref sig .tc := ⟨.hbm, 155, rfl⟩
abbrev main_v91 : Ref sig .tc := ⟨.hbm, 156, rfl⟩
abbrev main_c_23 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_c_24 : Ref sig .tc := ⟨.hbm, 168, rfl⟩
abbrev main_v102 : Ref sig .tc := ⟨.hbm, 169, rfl⟩
abbrev main_v103 : Ref sig .tc := ⟨.hbm, 170, rfl⟩
abbrev main_c_25 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_c_26 : Ref sig .tc := ⟨.hbm, 175, rfl⟩
abbrev main_v107 : Ref sig .tc := ⟨.hbm, 176, rfl⟩
abbrev main_v108 : Ref sig .tc := ⟨.hbm, 177, rfl⟩
abbrev main_c_27 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_c_28 : Ref sig .tc := ⟨.hbm, 182, rfl⟩
abbrev main_v112 : Ref sig .tc := ⟨.hbm, 183, rfl⟩
abbrev main_v113 : Ref sig .tc := ⟨.hbm, 184, rfl⟩
abbrev main_c_29 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_c_30 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_cst_31 : Ref sig .tc := ⟨.hbm, 213, rfl⟩
abbrev main_call7_v0 : Ref sig .tc := ⟨.hbm, 214, rfl⟩
abbrev main_call7_v1 : Ref sig .tc := ⟨.hbm, 215, rfl⟩
abbrev main_call7_v2 : Ref sig .tc := ⟨.hbm, 216, rfl⟩
abbrev main_v140 : Ref sig .tc := ⟨.hbm, 217, rfl⟩
abbrev main_cst_32 : Ref sig .tc := ⟨.hbm, 218, rfl⟩
abbrev main_v141 : Ref sig .tc := ⟨.hbm, 219, rfl⟩
abbrev main_v142 : Ref sig .tc := ⟨.hbm, 220, rfl⟩
abbrev main_cst_33 : Ref sig .tc := ⟨.hbm, 221, rfl⟩
abbrev main_v143 : Ref sig .tc := ⟨.hbm, 222, rfl⟩
abbrev main_v144 : Ref sig .tc := ⟨.hbm, 223, rfl⟩
abbrev main_cst_34 : Ref sig .tc := ⟨.hbm, 224, rfl⟩
abbrev main_call8_v0 : Ref sig .tc := ⟨.hbm, 225, rfl⟩
abbrev main_call8_v1 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_35 : Ref sig .tc := ⟨.hbm, 231, rfl⟩
abbrev main_v149 : Ref sig .tc := ⟨.hbm, 232, rfl⟩
abbrev main_v150 : Ref sig .tc := ⟨.hbm, 233, rfl⟩
abbrev main_cst_36 : Ref sig .tc := ⟨.hbm, 234, rfl⟩
abbrev main_v151 : Ref sig .tc := ⟨.hbm, 235, rfl⟩
abbrev main_v152 : Ref sig .tc := ⟨.hbm, 236, rfl⟩
abbrev main_cst_37 : Ref sig .tc := ⟨.hbm, 237, rfl⟩
abbrev main_call9_v0 : Ref sig .tc := ⟨.hbm, 238, rfl⟩
abbrev main_call9_v1 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_c_38 : Ref sig .tc := ⟨.hbm, 251, rfl⟩
abbrev main_v164 : Ref sig .tc := ⟨.hbm, 252, rfl⟩
abbrev main_v165 : Ref sig .tc := ⟨.hbm, 253, rfl⟩
abbrev main_c_39 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_cst_40 : Ref sig .tc := ⟨.hbm, 259, rfl⟩
abbrev main_call10_v0 : Ref sig .tc := ⟨.hbm, 260, rfl⟩
abbrev main_call10_v1 : Ref sig .tc := ⟨.hbm, 261, rfl⟩
abbrev main_call10_v2 : Ref sig .tc := ⟨.hbm, 262, rfl⟩
abbrev main_v170 : Ref sig .tc := ⟨.hbm, 263, rfl⟩
abbrev main_cst_41 : Ref sig .tc := ⟨.hbm, 264, rfl⟩
abbrev main_v171 : Ref sig .tc := ⟨.hbm, 265, rfl⟩
abbrev main_v172 : Ref sig .tc := ⟨.hbm, 266, rfl⟩
abbrev main_cst_42 : Ref sig .tc := ⟨.hbm, 267, rfl⟩
abbrev main_v173 : Ref sig .tc := ⟨.hbm, 268, rfl⟩
abbrev main_v174 : Ref sig .tc := ⟨.hbm, 269, rfl⟩
abbrev main_cst_43 : Ref sig .tc := ⟨.hbm, 270, rfl⟩
abbrev main_call11_v0 : Ref sig .tc := ⟨.hbm, 271, rfl⟩
abbrev main_call11_v1 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_cst_44 : Ref sig .tc := ⟨.hbm, 277, rfl⟩
abbrev main_v179 : Ref sig .tc := ⟨.hbm, 278, rfl⟩
abbrev main_v180 : Ref sig .tc := ⟨.hbm, 279, rfl⟩
abbrev main_cst_45 : Ref sig .tc := ⟨.hbm, 280, rfl⟩
abbrev main_v181 : Ref sig .tc := ⟨.hbm, 281, rfl⟩
abbrev main_v182 : Ref sig .tc := ⟨.hbm, 282, rfl⟩
abbrev main_cst_46 : Ref sig .tc := ⟨.hbm, 283, rfl⟩
abbrev main_call12_v0 : Ref sig .tc := ⟨.hbm, 284, rfl⟩
abbrev main_call12_v1 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S8x8192x3072 : Shape := ⟨3, ![8, 8192, 3072]⟩
abbrev S8x256x512 : Shape := ⟨3, ![8, 256, 512]⟩
abbrev S512x1024 : Shape := ⟨2, ![512, 1024]⟩
abbrev S1024x1024 : Shape := ⟨2, ![1024, 1024]⟩
abbrev S65536x512 : Shape := ⟨2, ![65536, 512]⟩
abbrev S_ : Shape := ⟨0, ![]⟩
abbrev S65536x1024 : Shape := ⟨2, ![65536, 1024]⟩
abbrev S65536x3072 : Shape := ⟨2, ![65536, 3072]⟩
abbrev S1024x512 : Shape := ⟨2, ![1024, 512]⟩
abbrev S1024x3072 : Shape := ⟨2, ![1024, 3072]⟩
abbrev S1x256x512 : Shape := ⟨3, ![1, 256, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 30
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x3072, .f32⟩
  | .hbm, ⟨5, _⟩ => ⟨S8x256x512, .f32⟩
  | .hbm, ⟨6, _⟩ => ⟨S8x256x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .bf16⟩
  | .hbm, ⟨16, _⟩ => ⟨S65536x1024, .f32⟩
  | .hbm, ⟨17, _⟩ => ⟨S65536x512, .f32⟩
  | .hbm, ⟨18, _⟩ => ⟨S65536x512, .bf16⟩
  | .hbm, ⟨19, _⟩ => ⟨S65536x512, .f32⟩
  | .hbm, ⟨20, _⟩ => ⟨S65536x512, .bf16⟩
  | .hbm, ⟨21, _⟩ => ⟨S65536x3072, .f32⟩
  | .hbm, ⟨22, _⟩ => ⟨S65536x3072, .bf16⟩
  | .hbm, ⟨23, _⟩ => ⟨S8x256x512, .bf16⟩
  | .hbm, ⟨24, _⟩ => ⟨S8x256x512, .bf16⟩
  | .hbm, ⟨25, _⟩ => ⟨S512x1024, .bf16⟩
  | .hbm, ⟨26, _⟩ => ⟨S512x1024, .bf16⟩
  | .hbm, ⟨27, _⟩ => ⟨S512x1024, .bf16⟩
  | .hbm, ⟨28, _⟩ => ⟨S1024x1024, .bf16⟩
  | .hbm, ⟨29, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S1024x3072, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x8192x1024 : Shape := ⟨3, ![8, 8192, 1024]⟩
abbrev S8x8192x512 : Shape := ⟨3, ![8, 8192, 512]⟩
abbrev S8x8192x3072 : Shape := ⟨3, ![8, 8192, 3072]⟩
abbrev S8x256x512 : Shape := ⟨3, ![8, 256, 512]⟩
abbrev S512x1024 : Shape := ⟨2, ![512, 1024]⟩
abbrev S1024x1024 : Shape := ⟨2, ![1024, 1024]⟩
abbrev S8x8192x4x128 : Shape := ⟨4, ![8, 8192, 4, 128]⟩
abbrev S8x256x4x128 : Shape := ⟨4, ![8, 256, 4, 128]⟩
abbrev S8x4x8192x256 : Shape := ⟨4, ![8, 4, 8192, 256]⟩
abbrev S_ : Shape := ⟨0, ![]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x8192x3x1024 : Shape := ⟨4, ![8, 8192, 3, 1024]⟩
abbrev S8x8192x1x1024 : Shape := ⟨4, ![8, 8192, 1, 1024]⟩
abbrev S65536x1024 : Shape := ⟨2, ![65536, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x3072, .f32⟩
  | .hbm, ⟨5, _⟩ => ⟨S8x256x512, .f32⟩
  | .hbm, ⟨6, _⟩ => ⟨S8x256x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x8192x1024, .f32⟩
  | .hbm, ⟨12, _⟩ => ⟨S8x8192x1024, .f32⟩
  | .hbm, ⟨13, _⟩ => ⟨S8x8192x4x128, .f32⟩
  | .hbm, ⟨14, _⟩ => ⟨S8x256x4x128, .f32⟩
  | .hbm, ⟨15, _⟩ => ⟨S8x256x4x128, .f32⟩
  | .hbm, ⟨16, _⟩ => ⟨S8x4x8192x256, .f32⟩
  | .hbm, ⟨17, _⟩ => ⟨S_, .f32⟩
  | .hbm, ⟨18, _⟩ => ⟨S8x4x8192x256, .f32⟩
  | .hbm, ⟨19, _⟩ => ⟨S8x4x8192x256, .f32⟩
  | .hbm, ⟨20, _⟩ => ⟨S_, .f32⟩
  | .hbm, ⟨21, _⟩ => ⟨S8x4x8192, .f32⟩
  | .hbm, ⟨22, _⟩ => ⟨S_, .f32⟩
  | .hbm, ⟨23, _⟩ => ⟨S8x4x8192, .f32⟩
  | .hbm, ⟨24, _⟩ => ⟨S8x4x8192, .f32⟩
  | .hbm, ⟨25, _⟩ => ⟨S8x4x8192x1, .f32⟩
  | .hbm, ⟨26, _⟩ => ⟨S8x4x8192x256, .f32⟩
  | .hbm, ⟨27, _⟩ => ⟨S8x4x8192x256, .f32⟩
  | .hbm, ⟨28, _⟩ => ⟨S8x4x8192x256, .f32⟩
  | .hbm, ⟨29, _⟩ => ⟨S_, .f32⟩
  | .hbm, ⟨30, _⟩ => ⟨S8x4x8192, .f32⟩
  | .hbm, ⟨31, _⟩ => ⟨S8x4x8192x1, .f32⟩
  | .hbm, ⟨32, _⟩ => ⟨S8x4x8192x256, .f32⟩
  | .hbm, ⟨33, _⟩ => ⟨S8x4x8192x256, .f32⟩
  | .hbm, ⟨34, _⟩ => ⟨S8x4x128x8192, .f32⟩
  | .hbm, ⟨35, _⟩ => ⟨S8x8192x4x128, .f32⟩
  | .hbm, ⟨36, _⟩ => ⟨S8x8192x512, .f32⟩
  | .hbm, ⟨37, _⟩ => ⟨S8x8192x1024, .f32⟩
  | .hbm, ⟨38, _⟩ => ⟨S8x8192x3x1024, .f32⟩
  | .hbm, ⟨39, _⟩ => ⟨S8x8192x1x1024, .f32⟩
  | .hbm, ⟨40, _⟩ => ⟨S8x8192x1024, .f32⟩
  | .hbm, ⟨41, _⟩ => ⟨S8x8192x1024, .f32⟩
  | .hbm, ⟨42, _⟩ => ⟨S8x8192x1x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S_, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S8x8192x1024, .f32⟩
  | .hbm, ⟨35, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S1024x5912 : Shape := ⟨2, ![1024, 5912]⟩
abbrev S4x64 : Shape := ⟨2, ![4, 64]⟩
abbrev S2x128 : Shape := ⟨2, ![2, 128]⟩
abbrev S31x1x512 : Shape := ⟨3, ![31, 1, 512]⟩
abbrev S512 : Shape := ⟨1, ![512]⟩
abbrev S1024x512 : Shape := ⟨2, ![1024, 512]⟩
abbrev S1024x768 : Shape := ⟨2, ![1024, 768]⟩
abbrev S1024x24 : Shape := ⟨2, ![1024, 24]⟩
abbrev S1024x1024 : Shape := ⟨2, ![1024, 1024]⟩
abbrev S1024x3072 : Shape := ⟨2, ![1024, 3072]⟩
abbrev S1024x2x12 : Shape := ⟨3, ![1024, 2, 12]⟩
abbrev S_ : Shape := ⟨0, ![]⟩
abbrev S1024x2x128 : Shape := ⟨3, ![1024, 2, 128]⟩
abbrev S1024x256 : Shape := ⟨2, ![1024, 256]⟩
abbrev S1x64 : Shape := ⟨2, ![1, 64]⟩
abbrev S64 : Shape := ⟨1, ![64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S4x128 : Shape := ⟨2, ![4, 128]⟩
abbrev S8x64x8x64 : Shape := ⟨4, ![8, 64, 8, 64]⟩
abbrev S512x512 : Shape := ⟨2, ![512, 512]⟩
abbrev S2x64x2x64 : Shape := ⟨4, ![2, 64, 2, 64]⟩
abbrev S128x128 : Shape := ⟨2, ![128, 128]⟩
abbrev S4x128x4x128 : Shape := ⟨4, ![4, 128, 4, 128]⟩
abbrev S1x1024 : Shape := ⟨2, ![1, 1024]⟩
abbrev S31x512 : Shape := ⟨2, ![31, 512]⟩
abbrev S65536x1024 : Shape := ⟨2, ![65536, 1024]⟩
abbrev S8x8x8192x64 : Shape := ⟨4, ![8, 8, 8192, 64]⟩
abbrev S8x2x8192x64 : Shape := ⟨4, ![8, 2, 8192, 64]⟩
abbrev S8x2x8192x256 : Shape := ⟨4, ![8, 2, 8192, 256]⟩
abbrev S8x2x8192x128 : Shape := ⟨4, ![8, 2, 8192, 128]⟩
abbrev S65536x512 : Shape := ⟨2, ![65536, 512]⟩
abbrev S65536x3072 : Shape := ⟨2, ![65536, 3072]⟩
abbrev S512x1024 : Shape := ⟨2, ![512, 1024]⟩
abbrev S1x8x512x64 : Shape := ⟨4, ![1, 8, 512, 64]⟩
abbrev S1x2x512x64 : Shape := ⟨4, ![1, 2, 512, 64]⟩
abbrev S1x2x512x256 : Shape := ⟨4, ![1, 2, 512, 256]⟩
abbrev S1x2x512x128 : Shape := ⟨4, ![1, 2, 512, 128]⟩
abbrev S512x3072 : Shape := ⟨2, ![512, 3072]⟩
abbrev S544x512 : Shape := ⟨2, ![544, 512]⟩
abbrev S7x536x512 : Shape := ⟨3, ![7, 536, 512]⟩
abbrev S32x512 : Shape := ⟨2, ![32, 512]⟩
abbrev S512x1 : Shape := ⟨2, ![512, 1]⟩
abbrev S536x512 : Shape := ⟨2, ![536, 512]⟩
abbrev S1x536x512 : Shape := ⟨3, ![1, 536, 512]⟩
abbrev S512x64 : Shape := ⟨2, ![512, 64]⟩
abbrev S1x1x512x64 : Shape := ⟨4, ![1, 1, 512, 64]⟩
abbrev S512x768 : Shape := ⟨2, ![512, 768]⟩
abbrev S512x128 : Shape := ⟨2, ![512, 128]⟩
abbrev S512x256 : Shape := ⟨2, ![512, 256]⟩
abbrev S1x1x512x128 : Shape := ⟨4, ![1, 1, 512, 128]⟩
abbrev S64x512 : Shape := ⟨2, ![64, 512]⟩
abbrev S1x64x512 : Shape := ⟨3, ![1, 64, 512]⟩
abbrev S64x1 : Shape := ⟨2, ![64, 1]⟩

abbrev nBuf : Space → Nat
  | .hbm => 94
  | .vmem => 44
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5912, .f32⟩
  | .hbm, ⟨3, _⟩ => ⟨S4x64, .f32⟩
  | .hbm, ⟨4, _⟩ => ⟨S2x128, .f32⟩
  | .hbm, ⟨5, _⟩ => ⟨S31x1x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x512, .f32⟩
  | .hbm, ⟨10, _⟩ => ⟨S1024x768, .f32⟩
  | .hbm, ⟨11, _⟩ => ⟨S1024x24, .f32⟩
  | .hbm, ⟨12, _⟩ => ⟨S1024x1024, .f32⟩
  | .hbm, ⟨13, _⟩ => ⟨S1024x512, .f32⟩
  | .hbm, ⟨14, _⟩ => ⟨S1024x3072, .f32⟩
  | .hbm, ⟨15, _⟩ => ⟨S1024x512, .bf16⟩
  | .hbm, ⟨16, _⟩ => ⟨S1024x768, .bf16⟩
  | .hbm, ⟨17, _⟩ => ⟨S1024x24, .bf16⟩
  | .hbm, ⟨18, _⟩ => ⟨S1024x1024, .bf16⟩
  | .hbm, ⟨19, _⟩ => ⟨S1024x512, .bf16⟩
  | .hbm, ⟨20, _⟩ => ⟨S1024x3072, .bf16⟩
  | .hbm, ⟨21, _⟩ => ⟨S1024x2x12, .bf16⟩
  | .hbm, ⟨22, _⟩ => ⟨S_, .i32⟩
  | .hbm, ⟨23, _⟩ => ⟨S_, .bf16⟩
  | .hbm, ⟨24, _⟩ => ⟨S1024x2x128, .bf16⟩
  | .hbm, ⟨25, _⟩ => ⟨S1024x256, .bf16⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x512, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S4x128, .f32⟩
  | .hbm, ⟨48, _⟩ => ⟨S512, .f32⟩
  | .hbm, ⟨49, _⟩ => ⟨S1x512, .f32⟩
  | .hbm, ⟨50, _⟩ => ⟨S8x64x8x64, .i32⟩
  | .hbm, ⟨51, _⟩ => ⟨S8x64x8x64, .i32⟩
  | .hbm, ⟨52, _⟩ => ⟨S8x64x8x64, .i1⟩
  | .hbm, ⟨53, _⟩ => ⟨S8x64x8x64, .f32⟩
  | .hbm, ⟨54, _⟩ => ⟨S_, .f32⟩
  | .hbm, ⟨55, _⟩ => ⟨S8x64x8x64, .f32⟩
  | .hbm, ⟨56, _⟩ => ⟨S8x64x8x64, .f32⟩
  | .hbm, ⟨57, _⟩ => ⟨S512x512, .f32⟩
  | .hbm, ⟨58, _⟩ => ⟨S512x512, .bf16⟩
  | .hbm, ⟨59, _⟩ => ⟨S2x64x2x64, .i32⟩
  | .hbm, ⟨60, _⟩ => ⟨S2x64x2x64, .i32⟩
  | .hbm, ⟨61, _⟩ => ⟨S2x64x2x64, .i1⟩
  | .hbm, ⟨62, _⟩ => ⟨S2x64x2x64, .f32⟩
  | .hbm, ⟨63, _⟩ => ⟨S_, .f32⟩
  | .hbm, ⟨64, _⟩ => ⟨S2x64x2x64, .f32⟩
  | .hbm, ⟨65, _⟩ => ⟨S2x64x2x64, .f32⟩
  | .hbm, ⟨66, _⟩ => ⟨S128x128, .f32⟩
  | .hbm, ⟨67, _⟩ => ⟨S128x128, .bf16⟩
  | .hbm, ⟨68, _⟩ => ⟨S4x128x4x128, .i32⟩
  | .hbm, ⟨69, _⟩ => ⟨S4x128x4x128, .i32⟩
  | .hbm, ⟨70, _⟩ => ⟨S4x128x4x128, .i1⟩
  | .hbm, ⟨71, _⟩ => ⟨S4x128x4x128, .f32⟩
  | .hbm, ⟨72, _⟩ => ⟨S_, .f32⟩
  | .hbm, ⟨73, _⟩ => ⟨S4x128x4x128, .f32⟩
  | .hbm, ⟨74, _⟩ => ⟨S4x128x4x128, .f32⟩
  | .hbm, ⟨75, _⟩ => ⟨S512x512, .f32⟩
  | .hbm, ⟨76, _⟩ => ⟨S512x512, .bf16⟩
  | .hbm, ⟨77, _⟩ => ⟨S1x1024, .f32⟩
  | .hbm, ⟨78, _⟩ => ⟨S31x512, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S65536x1024, .f32⟩
  | .hbm, ⟨83, _⟩ => ⟨S8x8x8192x64, .bf16⟩
  | .hbm, ⟨84, _⟩ => ⟨S8x2x8192x64, .f32⟩
  | .hbm, ⟨85, _⟩ => ⟨S8x2x8192x64, .f32⟩
  | .hbm, ⟨86, _⟩ => ⟨S8x2x8192x256, .bf16⟩
  | .hbm, ⟨87, _⟩ => ⟨S8x2x8192x128, .bf16⟩
  | .hbm, ⟨88, _⟩ => ⟨S8x2x8192x128, .bf16⟩
  | .hbm, ⟨89, _⟩ => ⟨S8x2x8192x128, .bf16⟩
  | .hbm, ⟨90, _⟩ => ⟨S8x2x8192x128, .bf16⟩
  | .hbm, ⟨91, _⟩ => ⟨S65536x512, .bf16⟩
  | .hbm, ⟨92, _⟩ => ⟨S65536x512, .bf16⟩
  | .hbm, ⟨93, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x768, .bf16⟩
  | .local _ .vmem, ⟨5, _⟩ => ⟨S1024x256, .bf16⟩
  | .local _ .vmem, ⟨6, _⟩ => ⟨S1024x1024, .bf16⟩
  | .local _ .vmem, ⟨7, _⟩ => ⟨S1024x512, .bf16⟩
  | .local _ .vmem, ⟨8, _⟩ => ⟨S1024x3072, .bf16⟩
  | .local _ .vmem, ⟨9, _⟩ => ⟨S512x512, .bf16⟩
  | .local _ .vmem, ⟨10, _⟩ => ⟨S128x128, .bf16⟩
  | .local _ .vmem, ⟨11, _⟩ => ⟨S512x512, .bf16⟩
  | .local _ .vmem, ⟨12, _⟩ => ⟨S1x512, .f32⟩
  | .local _ .vmem, ⟨13, _⟩ => ⟨S1x128, .f32⟩
  | .local _ .vmem, ⟨14, _⟩ => ⟨S1x128, .f32⟩
  | .local _ .vmem, ⟨15, _⟩ => ⟨S1x512, .f32⟩
  | .local _ .vmem, ⟨16, _⟩ => ⟨S31x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x8x512x64, .bf16⟩
  | .local _ .vmem, ⟨21, _⟩ => ⟨S1x8x512x64, .bf16⟩
  | .local _ .vmem, ⟨22, _⟩ => ⟨S1x2x512x64, .f32⟩
  | .local _ .vmem, ⟨23, _⟩ => ⟨S1x2x512x64, .f32⟩
  | .local _ .vmem, ⟨24, _⟩ => ⟨S1x2x512x64, .f32⟩
  | .local _ .vmem, ⟨25, _⟩ => ⟨S1x2x512x64, .f32⟩
  | .local _ .vmem, ⟨26, _⟩ => ⟨S1x2x512x256, .bf16⟩
  | .local _ .vmem, ⟨27, _⟩ => ⟨S1x2x512x256, .bf16⟩
  | .local _ .vmem, ⟨28, _⟩ => ⟨S1x2x512x128, .bf16⟩
  | .local _ .vmem, ⟨29, _⟩ => ⟨S1x2x512x128, .bf16⟩
  | .local _ .vmem, ⟨30, _⟩ => ⟨S1x2x512x128, .bf16⟩
  | .local _ .vmem, ⟨31, _⟩ => ⟨S1x2x512x128, .bf16⟩
  | .local _ .vmem, ⟨32, _⟩ => ⟨S1x2x512x128, .bf16⟩
  | .local _ .vmem, ⟨33, _⟩ => ⟨S1x2x512x128, .bf16⟩
  | .local _ .vmem, ⟨34, _⟩ => ⟨S1x2x512x128, .bf16⟩
  | .local _ .vmem, ⟨35, _⟩ => ⟨S1x2x512x128, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x3072, .bf16⟩
  | .local _ .vmem, ⟨41, _⟩ => ⟨S512x3072, .bf16⟩
  | .local _ .vmem, ⟨42, _⟩ => ⟨S544x512, .f32⟩
  | .local _ .vmem, ⟨43, _⟩ => ⟨S7x536x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_1 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69_0 : Ref sig .tc := ⟨.hbm, 83, rfl⟩
abbrev main_v69_1 : Ref sig .tc := ⟨.hbm, 84, rfl⟩
abbrev main_v69_2 : Ref sig .tc := ⟨.hbm, 85, rfl⟩
abbrev main_v69_3 : Ref sig .tc := ⟨.hbm, 86, rfl⟩
abbrev main_v69_4 : Ref sig .tc := ⟨.hbm, 87, rfl⟩
abbrev main_v69_5 : Ref sig .tc := ⟨.hbm, 88, rfl⟩
abbrev main_v69_6 : Ref sig .tc := ⟨.hbm, 89, rfl⟩
abbrev main_v69_7 : Ref sig .tc := ⟨.hbm, 90, rfl⟩
abbrev main_v69_8 : Ref sig .tc := ⟨.hbm, 91, rfl⟩
abbrev main_v69_9 : Ref sig .tc := ⟨.hbm, 92, rfl⟩
abbrev main_v69_10 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_stg29_0 : Ref sig .tc := ⟨.vmem, 40, rfl⟩
abbrev cc0_stg29_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37
abbrev cc0_sem28_0 : DmaSem sig := 38
abbrev cc0_sem28_1 : DmaSem sig := 39
abbrev cc0_sem29_0 : DmaSem sig := 40
abbrev cc0_sem29_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_22 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_23 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_24 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_25 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_26 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S31x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x8x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x512x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2x512x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x2x512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x2x512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x2x512x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x2x512x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x3072 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== Reference4Ideal.lean ====
abbrev S8x8192x1024 : Shape := ⟨3, ![8, 8192, 1024]⟩
abbrev S1024 : Shape := ⟨1, ![1024]⟩
abbrev S1024x5912 : Shape := ⟨2, ![1024, 5912]⟩
abbrev S4x64 : Shape := ⟨2, ![4, 64]⟩
abbrev S2x128 : Shape := ⟨2, ![2, 128]⟩
abbrev S31x1x512 : Shape := ⟨3, ![31, 1, 512]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5912 : Shape := ⟨3, ![8, 8192, 5912]⟩
abbrev S8x8192x512 : Shape := ⟨3, ![8, 8192, 512]⟩
abbrev S8x8192x768 : Shape := ⟨3, ![8, 8192, 768]⟩
abbrev S8x8192x24 : Shape := ⟨3, ![8, 8192, 24]⟩
abbrev S8x8192x3072 : Shape := ⟨3, ![8, 8192, 3072]⟩
abbrev S8x8192x8x64 : Shape := ⟨4, ![8, 8192, 8, 64]⟩
abbrev S8x8x8192x64 : Shape := ⟨4, ![8, 8, 8192, 64]⟩
abbrev S1x64 : Shape := ⟨2, ![1, 64]⟩
abbrev S64 : Shape := ⟨1, ![64]⟩
abbrev S8x8x8192 : Shape := ⟨3, ![8, 8, 8192]⟩
abbrev S8x8x8192x1 : Shape := ⟨4, ![8, 8, 8192, 1]⟩
abbrev S1x1x1x64 : Shape := ⟨4, ![1, 1, 1, 64]⟩
abbrev S8x8192x128 : Shape := ⟨3, ![8, 8192, 128]⟩
abbrev S8x8192x2x64 : Shape := ⟨4, ![8, 8192, 2, 64]⟩
abbrev S8x2x8192x64 : Shape := ⟨4, ![8, 2, 8192, 64]⟩
abbrev S8x2x8192 : Shape := ⟨3, ![8, 2, 8192]⟩
abbrev S8x2x8192x1 : Shape := ⟨4, ![8, 2, 8192, 1]⟩
abbrev S8x8192x2x12 : Shape := ⟨4, ![8, 8192, 2, 12]⟩
abbrev S8x2x8192x12 : Shape := ⟨4, ![8, 2, 8192, 12]⟩
abbrev S128x128 : Shape := ⟨2, ![128, 128]⟩
abbrev S128x64x128 : Shape := ⟨3, ![128, 64, 128]⟩
abbrev S8192x128 : Shape := ⟨2, ![8192, 128]⟩
abbrev S8x2x8192x128 : Shape := ⟨4, ![8, 2, 8192, 128]⟩
abbrev S8x2x8192x256 : Shape := ⟨4, ![8, 2, 8192, 256]⟩
abbrev S116 : Shape := ⟨1, ![116]⟩
abbrev S8x2x8192x116 : Shape := ⟨4, ![8, 2, 8192, 116]⟩
abbrev S8x8192x4x128 : Shape := ⟨4, ![8, 8192, 4, 128]⟩
abbrev S1x128 : Shape := ⟨2, ![1, 128]⟩
abbrev S128 : Shape := ⟨1, ![128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S65536x512 : Shape := ⟨2, ![65536, 512]⟩
abbrev S65536x3072 : Shape := ⟨2, ![65536, 3072]⟩

abbrev nBuf : Space → Nat
  | .hbm => 187
  | .vmem => 0
  | .smem => 0
  | _ => 0

abbrev hbmTy0_0 (i : Nat) : BufTy := match i % 128 with
  | 0 => ⟨S8x8192x1024, .f32⟩
  | 1 => ⟨S1024, .f32⟩
  | 2 => ⟨S1024x5912, .f32⟩
  | 3 => ⟨S4x64, .f32⟩
  | 4 => ⟨S2x128, .f32⟩
  | 5 => ⟨S31x1x512, .f32⟩
  | 6 => ⟨S512, .f32⟩
  | 7 => ⟨S512, .f32⟩
  | 8 => ⟨S512, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S8x8192x5912, .f32⟩
  | 26 => ⟨S8x8192x512, .f32⟩
  | 27 => ⟨S8x8192x768, .f32⟩
  | 28 => ⟨S8x8192x24, .f32⟩
  | 29 => ⟨S8x8192x1024, .f32⟩
  | 30 => ⟨S8x8192x512, .f32⟩
  | 31 => ⟨S8x8192x3072, .f32⟩
  | 32 => ⟨S8x8192x8x64, .f32⟩
  | 33 => ⟨S8x8x8192x64, .f32⟩
  | 34 => ⟨S1x64, .f32⟩
  | 35 => ⟨S64, .f32⟩
  | 36 => ⟨S8x8x8192x64, .f32⟩
  | 37 => ⟨S_, .f32⟩
  | 38 => ⟨S8x8x8192, .f32⟩
  | 39 => ⟨S8x8x8192x1, .f32⟩
  | 40 => ⟨S_, .f32⟩
  | 41 => ⟨S8x8x8192x1, .f32⟩
  | 42 => ⟨S8x8x8192x1, .f32⟩
  | 43 => ⟨S_, .f32⟩
  | 44 => ⟨S8x8x8192x1, .f32⟩
  | 45 => ⟨S8x8x8192x1, .f32⟩
  | 46 => ⟨S8x8x8192x1, .f32⟩
  | 47 => ⟨S8x8x8192x64, .f32⟩
  | 48 => ⟨S8x8x8192x64, .f32⟩
  | 49 => ⟨S1x1x1x64, .f32⟩
  | 50 => ⟨S8x8x8192x64, .f32⟩
  | 51 => ⟨S8x8x8192x64, .f32⟩
  | 52 => ⟨S8x8192x128, .f32⟩
  | 53 => ⟨S8x8192x128, .f32⟩
  | 54 => ⟨S8x8192x128, .f32⟩
  | 55 => ⟨S8x8192x128, .f32⟩
  | 56 => ⟨S8x8192x128, .f32⟩
  | 57 => ⟨S8x8192x128, .f32⟩
  | 58 => ⟨S8x8192x2x64, .f32⟩
  | 59 => ⟨S8x2x8192x64, .f32⟩
  | 60 => ⟨S8x8192x2x64, .f32⟩
  | 61 => ⟨S8x2x8192x64, .f32⟩
  | 62 => ⟨S8x8192x2x64, .f32⟩
  | 63 => ⟨S8x2x8192x64, .f32⟩
  | 64 => ⟨S8x8192x2x64, .f32⟩
  | 65 => ⟨S8x2x8192x64, .f32⟩
  | 66 => ⟨S8x8192x2x64, .f32⟩
  | 67 => ⟨S8x2x8192x64, .f32⟩
  | 68 => ⟨S8x8192x2x64, .f32⟩
  | 69 => ⟨S8x2x8192x64, .f32⟩
  | 70 => ⟨S1x64, .f32⟩
  | 71 => ⟨S64, .f32⟩
  | 72 => ⟨S8x2x8192x64, .f32⟩
  | 73 => ⟨S_, .f32⟩
  | 74 => ⟨S8x2x8192, .f32⟩
  | 75 => ⟨S8x2x8192x1, .f32⟩
  | 76 => ⟨S_, .f32⟩
  | 77 => ⟨S8x2x8192x1, .f32⟩
  | 78 => ⟨S8x2x8192x1, .f32⟩
  | 79 => ⟨S_, .f32⟩
  | 80 => ⟨S8x2x8192x1, .f32⟩
  | 81 => ⟨S8x2x8192x1, .f32⟩
  | 82 => ⟨S8x2x8192x1, .f32⟩
  | 83 => ⟨S8x2x8192x64, .f32⟩
  | 84 => ⟨S8x2x8192x64, .f32⟩
  | 85 => ⟨S1x1x1x64, .f32⟩
  | 86 => ⟨S8x2x8192x64, .f32⟩
  | 87 => ⟨S8x2x8192x64, .f32⟩
  | 88 => ⟨S1x64, .f32⟩
  | 89 => ⟨S64, .f32⟩
  | 90 => ⟨S8x2x8192x64, .f32⟩
  | 91 => ⟨S_, .f32⟩
  | 92 => ⟨S8x2x8192, .f32⟩
  | 93 => ⟨S8x2x8192x1, .f32⟩
  | 94 => ⟨S_, .f32⟩
  | 95 => ⟨S8x2x8192x1, .f32⟩
  | 96 => ⟨S8x2x8192x1, .f32⟩
  | 97 => ⟨S_, .f32⟩
  | 98 => ⟨S8x2x8192x1, .f32⟩
  | 99 => ⟨S8x2x8192x1, .f32⟩
  | 100 => ⟨S8x2x8192x1, .f32⟩
  | 101 => ⟨S8x2x8192x64, .f32⟩
  | 102 => ⟨S8x2x8192x64, .f32⟩
  | 103 => ⟨S1x1x1x64, .f32⟩
  | 104 => ⟨S8x2x8192x64, .f32⟩
  | 105 => ⟨S8x2x8192x64, .f32⟩
  | 106 => ⟨S8x8192x24, .f32⟩
  | 107 => ⟨S8x8192x24, .f32⟩
  | 108 => ⟨S_, .f32⟩
  | 109 => ⟨S8x8192x24, .f32⟩
  | 110 => ⟨S8x8192x24, .f32⟩
  | 111 => ⟨S_, .f32⟩
  | 112 => ⟨S8x8192x24, .f32⟩
  | 113 => ⟨S8x8192x24, .f32⟩
  | 114 => ⟨S8x8192x2x12, .f32⟩
  | 115 => ⟨S8x2x8192x12, .f32⟩
  | 116 => ⟨S128x128, .i32⟩
  | 117 => ⟨S128x128, .i32⟩
  | 118 => ⟨S_, .i32⟩
  | 119 => ⟨S128x128, .i32⟩
  | 120 => ⟨S128x128, .i32⟩
  | 121 => ⟨S128x128, .i1⟩
  | 122 => ⟨S128x128, .f32⟩
  | 123 => ⟨S128x64x128, .f32⟩
  | 124 => ⟨S8192x128, .f32⟩
  | 125 => ⟨S64, .i32⟩
  | 126 => ⟨S_, .f32⟩
  | 127 => ⟨S64, .f32⟩
  | _ => ⟨S8x8192x1024, .f32⟩

abbrev hbmTy0_1 (i : Nat) : BufTy := match i % 128 with
  | 0 => ⟨S8x2x8192x64, .f32⟩
  | 1 => ⟨S8x2x8192x128, .f32⟩
  | 2 => ⟨S8x2x8192x256, .f32⟩
  | 3 => ⟨S8x2x8192x256, .bf16⟩
  | 4 => ⟨S_, .i32⟩
  | 5 => ⟨S64, .i32⟩
  | 6 => ⟨S64, .i1⟩
  | 7 => ⟨S64, .f32⟩
  | 8 => ⟨S8x2x8192x64, .f32⟩
  | 9 => ⟨S8x2x8192x128, .f32⟩
  | 10 => ⟨S8x2x8192x128, .bf16⟩
  | 11 => ⟨S8x2x8192x64, .f32⟩
  | 12 => ⟨S8x2x8192x128, .f32⟩
  | 13 => ⟨S8x2x8192x128, .bf16⟩
  | 14 => ⟨S_, .i32⟩
  | 15 => ⟨S64, .i32⟩
  | 16 => ⟨S64, .i1⟩
  | 17 => ⟨S64, .f32⟩
  | 18 => ⟨S8x2x8192x64, .f32⟩
  | 19 => ⟨S8x2x8192x128, .f32⟩
  | 20 => ⟨S8x2x8192x128, .bf16⟩
  | 21 => ⟨S_, .f32⟩
  | 22 => ⟨S116, .f32⟩
  | 23 => ⟨S8x2x8192x116, .f32⟩
  | 24 => ⟨S8x2x8192x116, .f32⟩
  | 25 => ⟨S8x2x8192x128, .f32⟩
  | 26 => ⟨S8x2x8192x128, .bf16⟩
  | 27 => ⟨S8x8192x4x128, .f32⟩
  | 28 => ⟨S1x128, .f32⟩
  | 29 => ⟨S128, .f32⟩
  | 30 => ⟨S8x8192x4x128, .f32⟩
  | 31 => ⟨S_, .f32⟩
  | 32 => ⟨S8x8192x4, .f32⟩
  | 33 => ⟨S8x8192x4x1, .f32⟩
  | 34 => ⟨S_, .f32⟩
  | 35 => ⟨S8x8192x4x1, .f32⟩
  | 36 => ⟨S8x8192x4x1, .f32⟩
  | 37 => ⟨S_, .f32⟩
  | 38 => ⟨S8x8192x4x1, .f32⟩
  | 39 => ⟨S8x8192x4x1, .f32⟩
  | 40 => ⟨S8x8192x4x1, .f32⟩
  | 41 => ⟨S8x8192x4x128, .f32⟩
  | 42 => ⟨S8x8192x4x128, .f32⟩
  | 43 => ⟨S1x1x1x128, .f32⟩
  | 44 => ⟨S8x8192x4x128, .f32⟩
  | 45 => ⟨S8x8192x4x128, .f32⟩
  | 46 => ⟨S8x8192x3072, .f32⟩
  | 47 => ⟨S8x8192x3072, .f32⟩
  | 48 => ⟨S_, .f32⟩
  | 49 => ⟨S8x8192x3072, .f32⟩
  | 50 => ⟨S8x8192x3072, .f32⟩
  | 51 => ⟨S_, .f32⟩
  | 52 => ⟨S8x8192x3072, .f32⟩
  | 53 => ⟨S8x8192x3072, .f32⟩
  | 54 => ⟨S8x8x8192x64, .bf16⟩
  | 55 => ⟨S65536x512, .f32⟩
  | 56 => ⟨S65536x512, .bf16⟩
  | 57 => ⟨S65536x3072, .f32⟩
  | 58 => ⟨S65536x3072, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_cst_12 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_13 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_14 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_c_15 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_16 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_17 : Ref sig .tc := ⟨.hbm, 159, rfl⟩
abbrev main_v131 : Ref sig .tc := ⟨.hbm, 160, rfl⟩
abbrev main_v132 : Ref sig .tc := ⟨.hbm, 161, rfl⟩
abbrev main_cst_18 : Ref sig .tc := ⟨.hbm, 162, rfl⟩
abbrev main_v133 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_20 : Ref sig .tc := ⟨.hbm, 176, rfl⟩
abbrev main_v145 : Ref sig .tc := ⟨.hbm, 177, rfl⟩
abbrev main_v146 : Ref sig .tc := ⟨.hbm, 178, rfl⟩
abbrev main_cst_21 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩

abbrev nD : Nat := 1
abbrev τ : Topo := Topo.v7x

variable {F : FTy → Type} [FloatOps F]
-- ==== Proof.FfnValue.lean ====
module

public import proofs.«01_k».proof.Proof.Gen.Kernel3Ideal.Frame
public import proofs.«01_k».proof.Proof.Gen.Reference3Ideal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- The normalised rows of the feed-forward reference. -/
def HN (a0 : FVec Ideal Cert.Reference3Ideal.S8x8192x1024 .f32) (a1 : FVec Ideal Cert.Reference3Ideal.S1024 .f32) :
    FVec Ideal Cert.Reference3Ideal.S8x8192x1024 .f32 :=
  (mulf (mulf a0 (broadcastInDim Cert.Reference3Ideal.S8x8192x1024 ![0, 1, 2] Cert.Reference3Ideal.Gen.bcast_S8x8192x1_S8x8192x1024_0_1_2 (Host.rsqrt (addf (Host.divf (broadcastInDim Cert.Reference3Ideal.S8x8192x1 ![0, 1] Cert.Reference3Ideal.Gen.bcast_S8x8192_S8x8192x1_0_1 (Host.reduceAdd (mulf a0 a0) (constant Cert.Reference3Ideal.S_ .f32 0x00000000#32) Cert.Reference3Ideal.Gen.reducesTo_S8x8192x1024_S8x8192_d2 Cert.Reference3Ideal.Gen.h_S_)) (broadcastInDim Cert.Reference3Ideal.S8x8192x1 ![] Cert.Reference3Ideal.Gen.bcast_S_S8x8192x1 (constant Cert.Reference3Ideal.S_ .f32 0x44800000#32))) (broadcastInDim Cert.Reference3Ideal.S8x8192x1 ![] Cert.Reference3Ideal.Gen.bcast_S_S8x8192x1 (constant Cert.Reference3Ideal.S_ .f32 0x358637BD#32)))))) (broadcastInDim Cert.Reference3Ideal.S8x8192x1024 ![0, 1, 2] Cert.Reference3Ideal.Gen.bcast_S1x1x1024_S8x8192x1024_0_1_2 (broadcastInDim Cert.Reference3Ideal.S1x1x1024 ![2] Cert.Reference3Ideal.Gen.bcast_S1024_S1x1x1024_2 a1)))

/-- The feed-forward reference's result over its normalised rows. -/
abbrev REFH (hn a0 : FVec Ideal Cert.Reference3Ideal.S8x8192x1024 .f32) (a2 a3 : FVec Ideal Cert.Reference3Ideal.S1024x2816 .f32)
    (a4 : FVec Ideal Cert.Reference3Ideal.S2816x1024 .f32) : FVec Ideal Cert.Reference3Ideal.S65536x1024 .f32 :=
  shapeCast _ (addf a0 (Host.dotGeneral Cert.Reference3Ideal.dot_S8x8192x2816_S2816x1024_S8x8192x1024_2_0_01_1_n_n none (mulf (mulf (Host.dotGeneral Cert.Reference3Ideal.dot_S8x8192x1024_S1024x2816_S8x8192x2816_2_0_01_1_n_n none hn a2) (Host.divf (broadcastInDim Cert.Reference3Ideal.S8x8192x2816 ![] Cert.Reference3Ideal.Gen.bcast_S_S8x8192x2816 (constant Cert.Reference3Ideal.S_ .f32 0x3F800000#32)) (addf (broadcastInDim Cert.Reference3Ideal.S8x8192x2816 ![] Cert.Reference3Ideal.Gen.bcast_S_S8x8192x2816 (constant Cert.Reference3Ideal.S_ .f32 0x3F800000#32)) (Host.exp (Host.negf (Host.dotGeneral Cert.Reference3Ideal.dot_S8x8192x1024_S1024x2816_S8x8192x2816_2_0_01_1_n_n none hn a2)))))) (Host.dotGeneral Cert.Reference3Ideal.dot_S8x8192x1024_S1024x2816_S8x8192x2816_2_0_01_1_n_n none hn a3)) a4)) Cert.Reference3Ideal.Gen.shapeCasts_S8x8192x1024_S65536x1024

/-- The feed-forward reference's result as a term over its arguments. -/
abbrev REF (a0 : FVec Ideal Cert.Reference3Ideal.S8x8192x1024 .f32) (a1 : FVec Ideal Cert.Reference3Ideal.S1024 .f32)
    (a2 a3 : FVec Ideal Cert.Reference3Ideal.S1024x2816 .f32) (a4 : FVec Ideal Cert.Reference3Ideal.S2816x1024 .f32) :
    FVec Ideal Cert.Reference3Ideal.S65536x1024 .f32 :=
  REFH (HN a0 a1) a0 a2 a3 a4

/-- A sum over a range, its last 256 terms taken apart. -/
theorem sum_take (g : ℕ → EReal) (n : ℕ) :
    ∑ i ∈ Finset.range (n + 256), g i = ∑ i ∈ Finset.range n, g i + ∑ k : Fin 256, g (n + k.val) := by
  rw [Finset.sum_range_add, Fin.sum_univ_eq_sum_range (fun k => g (n + k)) 256]

/-- A term plus a sum over 2816 positions, the sum taken in eleven runs of 256. -/
theorem add_sum_split (x : EReal) (f : Fin 2816 → EReal) : x + ∑ i, f i
    = x + (∑ k : Fin 256, f ⟨k, by omega⟩) + (∑ k : Fin 256, f ⟨256 + k, by omega⟩) + (∑ k : Fin 256, f ⟨512 + k, by omega⟩) + (∑ k : Fin 256, f ⟨768 + k, by omega⟩) + (∑ k : Fin 256, f ⟨1024 + k, by omega⟩) + (∑ k : Fin 256, f ⟨1280 + k, by omega⟩) + (∑ k : Fin 256, f ⟨1536 + k, by omega⟩) + (∑ k : Fin 256, f ⟨1792 + k, by omega⟩) + (∑ k : Fin 256, f ⟨2048 + k, by omega⟩) + (∑ k : Fin 256, f ⟨2304 + k, by omega⟩) + (∑ k : Fin 256, f ⟨2560 + k, by omega⟩) := by
  obtain ⟨g, hg⟩ : ∃ g : ℕ → EReal, ∀ (n : ℕ) (h : n < 2816), f ⟨n, h⟩ = g n :=
    ⟨fun n => if h : n < 2816 then f ⟨n, h⟩ else 0, fun n h => by simp only [h, dite_true]⟩
  rw [show (∑ i, f i) = ∑ i : Fin 2816, g i.val from Finset.sum_congr rfl fun i _ => hg i.val i.isLt, Fin.sum_univ_eq_sum_range g 2816,
    sum_take g 2560, sum_take g 2304, sum_take g 2048, sum_take g 1792, sum_take g 1536, sum_take g 1280, sum_take g 1024, sum_take g 768, sum_take g 512, sum_take g 256, sum_take g 0, Finset.sum_range_zero]
  simp only [hg, Nat.zero_add, zero_add, ← add_assoc]

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- One entry of the feed-forward block's result, over the normalised row, the row itself and the weights. -/
def entry (hn : Fin 1024 → EReal) (x : EReal) (wg wu : Fin 1024 → Fin 2816 → EReal) (wd : Fin 2816 → EReal) : EReal :=
  x + ∑ f : Fin 2816, ((∑ k, hn k * wg k f) * Ideal.div 1 (1 + Ideal.exp (-∑ k, hn k * wg k f)) * ∑ k, hn k * wu k f) * wd f

/-- One entry of a normalised row, over the row and the gain. -/
def hnEntry (x g : Fin 1024 → EReal) (k : Fin 1024) : EReal :=
  x k * Ideal.rsqrt (Ideal.div (∑ j, x j * x j) (Ideal.ofBits .f32 0x44800000#32) + Ideal.ofBits .f32 0x358637BD#32) * g k

theorem hn_payload (h : Vec Ideal S1024x1024 .f32) (g : Vec Ideal S1x1024 .f32) (r k : Fin 1024) :
    k0_pay3 (View.ld h r0_0) (View.ld g r0_1) (ix2 r k) = hnEntry (fun j => h (ix2 r j)) (fun j => g (ix2 0 j)) k := by
  pointwise [k0_pay3, k0_pay2, hnEntry]

theorem hn_payload_whole (h : Vec Ideal S1024x1024 .f32) (g : Vec Ideal S1x1024 .f32) (r k : Fin 1024) :
    k0_pay3 h g (ix2 r k) = hnEntry (fun j => h (ix2 r j)) (fun j => g (ix2 0 j)) k := by
  pointwise [k0_pay3, k0_pay2, hnEntry]

set_option maxHeartbeats 1600000 in
theorem payload (h : Vec Ideal S1024x1024 .f32) (g : Vec Ideal S1x1024 .f32) (wg wu : Vec Ideal S1024x2816 .bf16)
    (wd : Vec Ideal S2816x1024 .bf16) (r l : Fin 1024) :
    k0_pay1 (k0_pay16 (k0_pay20 h g wg wu wd) (k0_pay12
      (k0_pay20 h g wg wu wd) (k0_pay9 (k0_pay20 h g wg wu wd) (k0_pay7 (k0_pay20 h g
      wg wu wd) (k0_pay5 (k0_pay20 h g wg
      wu wd) (k0_pay4 h g (View.ld wg r0_2) (View.ld wu r0_2) (View.ld wd r0_3)) (View.ld wg r0_4) (View.ld wu r0_4) (View.ld
      wd r0_5)) (k0_pay6 (k0_pay20 h g wg wu wd) (View.ld wg r0_6) (View.ld wu r0_6) (View.ld wd r0_7)) (View.ld wg r0_8) (View.ld wu r0_8) (View.ld wd r0_9)) (k0_pay8 (k0_pay20 h g wg wu wd) (View.ld wg r0_10) (View.ld wu
      r0_10)) (View.ld wd r0_11) (View.ld wg r0_12) (View.ld wu r0_12) (View.ld
      wd r0_13)) (k0_pay10 (k0_pay20 h g wg wu wd) (View.ld wu r0_14)) (k0_pay11 (k0_pay20 h g wg wu wd) (View.ld wg r0_14)) (View.ld wd r0_15) (View.ld wg r0_16)
      (View.ld wu r0_16) (View.ld wd r0_17)) (k0_pay13 (k0_pay20 h g
      wg wu wd) (View.ld wg r0_18)) (k0_pay14 (k0_pay20 h
      g wg wu wd) (View.ld wu r0_18)) (k0_pay15 (k0_pay20
      h g wg wu wd) (View.ld wg r0_18))
      (View.ld wd r0_19) (View.ld wg r0_20) (View.ld wu r0_20) (View.ld wd r0_21)) (k0_pay17 (k0_pay20 h g wg wu wd)
      (View.ld wg r0_22)) (k0_pay18 (k0_pay20 h g wg wu
      wd) (View.ld wu r0_22)) (k0_pay19 (k0_pay20 h g wg
      wu wd) (View.ld wg r0_22)) (View.ld wd r0_23) (ix2 r l)
      = entry (fun k => hnEntry (fun j => h (ix2 r j)) (fun j => g (ix2 0 j)) k) (h (ix2 r l)) (fun k f => wg (ix2 k f)) (fun k f => wu (ix2 k f)) fun f => wd (ix2 f l) := by
  pointwise [k0_pay1, k0_pay16, k0_pay20, k0_pay12, k0_pay9, k0_pay7, k0_pay5, k0_pay4, k0_pay6, k0_pay8, k0_pay10, k0_pay11, k0_pay13, k0_pay14, k0_pay15, k0_pay17, k0_pay18, k0_pay19, k0_pay2]
  unfold entry
  rw [add_sum_split]
  simp only [hn_payload]
  simp only [hn_payload_whole, zero_sub]

theorem hn_ref (a0 : FVec Ideal Cert.Reference3Ideal.S8x8192x1024 .f32) (a1 : FVec Ideal Cert.Reference3Ideal.S1024 .f32) (b : Fin 8) (s : Fin 8192) (k : Fin 1024) :
    HN a0 a1 (ix3 b s k) = hnEntry (fun j => a0 (ix3 b s j)) (fun j => a1 (ix1 j)) k := by
  pointwise [HN, hnEntry]

theorem ref_entry (a0 : FVec Ideal Cert.Reference3Ideal.S8x8192x1024 .f32) (a1 : FVec Ideal Cert.Reference3Ideal.S1024 .f32)
    (a2 a3 : FVec Ideal Cert.Reference3Ideal.S1024x2816 .f32) (a4 : FVec Ideal Cert.Reference3Ideal.S2816x1024 .f32) (r : Fin 65536) (l : Fin 1024) :
    REF a0 a1 a2 a3 a4 (ix2 r l)
      = entry (fun k => hnEntry (fun j => a0 (ix3 ⟨r.val / 8192, by omega⟩ ⟨r.val % 8192, by omega⟩ j)) (fun j => a1 (ix1 j)) k) (a0 (ix3 ⟨r.val / 8192, by omega⟩ ⟨r.val % 8192, by omega⟩ l)) (fun k f => a2 (ix2 k f)) (fun k f => a3 (ix2 k f)) fun f => a4 (ix2 f l) := by
  pointwise [REF, REFH]
  simp only [hn_ref]
  unfold entry
  rfl

set_option maxHeartbeats 1600000 in
/-- What the body stores at block index `y` of point `t` is the reference at the array index `y` sits at. -/
theorem point (c : Dev nD) (t : Fin cfg0.N) (y) :
    k0_pay1 (k0_pay16 (k0_pay20 (iblk m c 0 t) (iblk m c 1 t) (iblk m c 2 t) (iblk m c 3 t) (iblk m c 4 t)) (k0_pay12
      (k0_pay20 (iblk m c 0 t) (iblk m c 1 t) (iblk m c 2 t) (iblk m c 3 t) (iblk m c 4 t)) (k0_pay9 (k0_pay20 (iblk m c
      0 t) (iblk m c 1 t) (iblk m c 2 t) (iblk m c 3 t) (iblk m c 4 t)) (k0_pay7 (k0_pay20 (iblk m c 0 t) (iblk m c 1 t)
      (iblk m c 2 t) (iblk m c 3 t) (iblk m c 4 t)) (k0_pay5 (k0_pay20 (iblk m c 0 t) (iblk m c 1 t) (iblk m c 2 t)
      (iblk m c 3 t) (iblk m c 4 t)) (k0_pay4 (iblk m c 0 t) (iblk m c 1 t) (View.ld (iblk m c 2 t) r0_2) (View.ld (iblk
      m c 3 t) r0_2) (View.ld (iblk m c 4 t) r0_3)) (View.ld (iblk m c 2 t) r0_4) (View.ld (iblk m c 3 t) r0_4) (View.ld
      (iblk m c 4 t) r0_5)) (k0_pay6 (k0_pay20 (iblk m c 0 t) (iblk m c 1 t) (iblk m c 2 t) (iblk m c 3 t) (iblk m c 4
      t)) (View.ld (iblk m c 2 t) r0_6) (View.ld (iblk m c 3 t) r0_6) (View.ld (iblk m c 4 t) r0_7)) (View.ld (iblk m c
      2 t) r0_8) (View.ld (iblk m c 3 t) r0_8) (View.ld (iblk m c 4 t) r0_9)) (k0_pay8 (k0_pay20 (iblk m c 0 t) (iblk m
      c 1 t) (iblk m c 2 t) (iblk m c 3 t) (iblk m c 4 t)) (View.ld (iblk m c 2 t) r0_10) (View.ld (iblk m c 3 t)
      r0_10)) (View.ld (iblk m c 4 t) r0_11) (View.ld (iblk m c 2 t) r0_12) (View.ld (iblk m c 3 t) r0_12) (View.ld
      (iblk m c 4 t) r0_13)) (k0_pay10 (k0_pay20 (iblk m c 0 t) (iblk m c 1 t) (iblk m c 2 t) (iblk m c 3 t) (iblk m c 4
      t)) (View.ld (iblk m c 3 t) r0_14)) (k0_pay11 (k0_pay20 (iblk m c 0 t) (iblk m c 1 t) (iblk m c 2 t) (iblk m c 3
      t) (iblk m c 4 t)) (View.ld (iblk m c 2 t) r0_14)) (View.ld (iblk m c 4 t) r0_15) (View.ld (iblk m c 2 t) r0_16)
      (View.ld (iblk m c 3 t) r0_16) (View.ld (iblk m c 4 t) r0_17)) (k0_pay13 (k0_pay20 (iblk m c 0 t) (iblk m c 1 t)
      (iblk m c 2 t) (iblk m c 3 t) (iblk m c 4 t)) (View.ld (iblk m c 2 t) r0_18)) (k0_pay14 (k0_pay20 (iblk m c 0 t)
      (iblk m c 1 t) (iblk m c 2 t) (iblk m c 3 t) (iblk m c 4 t)) (View.ld (iblk m c 3 t) r0_18)) (k0_pay15 (k0_pay20
      (iblk m c 0 t) (iblk m c 1 t) (iblk m c 2 t) (iblk m c 3 t) (iblk m c 4 t)) (View.ld (iblk m c 2 t) r0_18))
      (View.ld (iblk m c 4 t) r0_19) (View.ld (iblk m c 2 t) r0_20) (View.ld (iblk m c 3 t) r0_20) (View.ld (iblk m c 4
      t) r0_21)) (k0_pay17 (k0_pay20 (iblk m c 0 t) (iblk m c 1 t) (iblk m c 2 t) (iblk m c 3 t) (iblk m c 4 t))
      (View.ld (iblk m c 2 t) r0_22)) (k0_pay18 (k0_pay20 (iblk m c 0 t) (iblk m c 1 t) (iblk m c 2 t) (iblk m c 3 t)
      (iblk m c 4 t)) (View.ld (iblk m c 3 t) r0_22)) (k0_pay19 (k0_pay20 (iblk m c 0 t) (iblk m c 1 t) (iblk m c 2 t)
      (iblk m c 3 t) (iblk m c 4 t)) (View.ld (iblk m c 2 t) r0_22)) (View.ld (iblk m c 4 t) r0_23) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  obtain ⟨r, l, rfl⟩ : ∃ r l, y = ix2 r l := ⟨y 0, y 1, eq_ix2 y⟩
  refine (payload (iblk m c 0 t) (iblk m c 1 t) (iblk m c 2 t) (iblk m c 3 t) (iblk m c 4 t) r l).trans ?_
  have e : ((cfg0.win 5).blk t).view.emb (ix2 r l) = ix2 ⟨1024 * t.val + r.val, by have ht : t.val < 64 := t.isLt; have := r.isLt; omega⟩ l := by
    blk_ext [idx_val t]
  rw [e, ref_entry]
  have e0 : ∀ j, iblk m c 0 t (ix2 r j) = m ((c : Thread nD τ).loc main_arg0) (ix3 ⟨(1024 * t.val + r.val) / 8192, by have ht : t.val < 64 := t.isLt; have := r.isLt; omega⟩ ⟨(1024 * t.val + r.val) % 8192, by omega⟩ j) := fun j => by
    blk_point [iblk, V, idx_val t]
  have e1 : ∀ j, iblk m c 1 t (ix2 0 j) = m ((c : Thread nD τ).loc main_arg1) (ix1 j) := fun j => by
    blk_point [iblk, V, idx_val t]
  have e2 : ∀ k f, iblk m c 2 t (ix2 k f) = m ((c : Thread nD τ).loc main_arg2) (ix2 k f) := fun k f => by
    blk_point [iblk, V, idx_val t]
  have e3 : ∀ k f, iblk m c 3 t (ix2 k f) = m ((c : Thread nD τ).loc main_arg3) (ix2 k f) := fun k f => by
    blk_point [iblk, V, idx_val t]
  have e4 : ∀ f k, iblk m c 4 t (ix2 f k) = m ((c : Thread nD τ).loc main_arg4) (ix2 f k) := fun k f => by
    blk_point [iblk, V, idx_val t]
  simp only [e0, e1, e2, e3, e4]

/-- The result array after the run is the reference's result. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Kernel3Ideal.Value

end
-- ==== Proof.IdealFacts.lean ====
module

public import Idealize.ShloMosaic.Lib.IdealHost
public import Idealize.ShloMosaic.Lib.ReduceAll
public import Idealize.ShloMosaic.Lib.ValueIdx
public import Idealize.ShloMosaic.Lib.Pipeline.ValueKit

@[expose] public section

open Idealize.ShloMosaic
open scoped BigOperators

namespace Cert.IdealFacts

/-- The f32 word of minus infinity is the bottom extended real. -/
theorem ofBits_neg_inf : Ideal.ofBits .f32 0xFF800000#32 = (⊥ : EReal) := by
  simp [Ideal.ofBits, Ideal.ieee]

/-- The f32 word of plus infinity is the top extended real. -/
theorem ofBits_inf : Ideal.ofBits .f32 0x7F800000#32 = (⊤ : EReal) := by
  simp [Ideal.ofBits, Ideal.ieee]

/-- An extended real whose absolute value lies below plus infinity is a real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, taken from the bottom extended real up, is the real largest of them. -/
theorem fold_max_coe {ι : Type*} [Fintype ι] [Nonempty ι] (s : ι → ℝ) :
    ∃ M : ℝ, Finset.univ.fold max (⊥ : EReal) (fun j => (s j : EReal)) = M ∧ (∀ j, s j ≤ M) ∧ ∃ j, s j = M := by
  obtain ⟨j, hj⟩ := Finite.exists_max s
  refine ⟨s j, le_antisymm ?_ ?_, hj, j, rfl⟩
  · exact Finset.fold_max_le (s j : EReal) |>.2 ⟨bot_le, fun i _ => EReal.coe_le_coe_iff.2 (hj i)⟩
  · exact Finset.le_fold_max (s j : EReal) |>.2 (.inr ⟨j, Finset.mem_univ _, le_rfl⟩)

/-- The exponential of a real is the real exponential. -/
theorem exp_coe (r : ℝ) : Ideal.exp (r : EReal) = (Real.exp r : ℝ) := rfl

/-- The quotient of two reals, the divisor not zero, is their real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The host's row maxima of a rank-4 array over its last axis. -/
theorem host_max_r4 {n0 n1 n2 n3 : Nat} (x : FVec Ideal ⟨4, ![n0, n1, n2, n3]⟩ .f32) (init : FVec Ideal ⟨0, ![]⟩ .f32)
    (h : (⟨4, ![n0, n1, n2, n3]⟩ : Shape).ReducesTo [3] ⟨3, ![n0, n1, n2]⟩) (hu) (a : Fin n0) (b : Fin n1) (c : Fin n2) :
    Host.reduce FloatOps.maximumf x init h hu (ix3 a b c) = Finset.univ.fold max (init (Shape.Idx.first hu)) (fun i => x (ix4 a b c i)) := by
  pointwise

/-- The host's row maxima of a rank-5 array over its last axis. -/
theorem host_max_r5 {n0 n1 n2 n3 n4 : Nat} (x : FVec Ideal ⟨5, ![n0, n1, n2, n3, n4]⟩ .f32) (init : FVec Ideal ⟨0, ![]⟩ .f32)
    (h : (⟨5, ![n0, n1, n2, n3, n4]⟩ : Shape).ReducesTo [4] ⟨4, ![n0, n1, n2, n3]⟩) (hu) (a : Fin n0) (b : Fin n1) (c : Fin n2) (d : Fin n3) :
    Host.reduce FloatOps.maximumf x init h hu (ix4 a b c d) = Finset.univ.fold max (init (Shape.Idx.first hu)) (fun i => x (ix5 a b c d i)) := by
  pointwise

end Cert.IdealFacts
-- ==== Proof.MergeValue.lean ====
module

public import proofs.«01_k».proof.Proof.Gen.Kernel2Ideal.Frame
public import proofs.«01_k».proof.Proof.Gen.Reference2Ideal
public import Idealize.ShloMosaic.Lib.Pipeline.ValueKit
public import Idealize.ShloMosaic.Lib.IdealHost
public import proofs.«01_k».proof.Proof.IdealFacts

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- The scaled scores of the memory attention. -/
def SC (a3 : FVec Ideal Cert.Reference2Ideal.S8x8192x512 .f32) (a5 : FVec Ideal Cert.Reference2Ideal.S8x256x512 .f32) : FVec Ideal Cert.Reference2Ideal.S8x4x8192x256 .f32 :=
  (mulf (Host.dotGeneral Cert.Reference2Ideal.dot_S8x8192x4x128_S8x256x4x128_S8x4x8192x256_3_3_1_1_02_02 none (shapeCast _ a3 Cert.Reference2Ideal.Gen.shapeCasts_S8x8192x512_S8x8192x4x128) (shapeCast _ a5 Cert.Reference2Ideal.Gen.shapeCasts_S8x256x512_S8x256x4x128)) (broadcastInDim Cert.Reference2Ideal.S8x4x8192x256 ![] Cert.Reference2Ideal.Gen.bcast_S_S8x4x8192x256 (constant Cert.Reference2Ideal.S_ .f32 0x3DB504F3#32)))

/-- The row maxima of the scores. -/
def MX (sc : FVec Ideal Cert.Reference2Ideal.S8x4x8192x256 .f32) : FVec Ideal Cert.Reference2Ideal.S8x4x8192 .f32 :=
  (Host.reduce FloatOps.maximumf sc (constant Cert.Reference2Ideal.S_ .f32 0xFF800000#32) Cert.Reference2Ideal.Gen.reducesTo_S8x4x8192x256_S8x4x8192_d3 Cert.Reference2Ideal.Gen.h_S_)

/-- The exponentials of the scores less their row's largest. -/
def EX (sc : FVec Ideal Cert.Reference2Ideal.S8x4x8192x256 .f32) (mx : FVec Ideal Cert.Reference2Ideal.S8x4x8192 .f32) : FVec Ideal Cert.Reference2Ideal.S8x4x8192x256 .f32 :=
  (Host.exp (subf sc (broadcastInDim Cert.Reference2Ideal.S8x4x8192x256 ![0, 1, 2, 3] Cert.Reference2Ideal.Gen.bcast_S8x4x8192x1_S8x4x8192x256_0_1_2_3 (broadcastInDim Cert.Reference2Ideal.S8x4x8192x1 ![0, 1, 2] Cert.Reference2Ideal.Gen.bcast_S8x4x8192_S8x4x8192x1_0_1_2 (maximumf (broadcastInDim Cert.Reference2Ideal.S8x4x8192 ![] Cert.Reference2Ideal.Gen.bcast_S_S8x4x8192 (constant Cert.Reference2Ideal.S_ .f32 0xFF800000#32)) mx)))))

/-- The memory attention's output, its heads side by side. -/
def OM (a6 : FVec Ideal Cert.Reference2Ideal.S8x256x512 .f32) (ex : FVec Ideal Cert.Reference2Ideal.S8x4x8192x256 .f32) : FVec Ideal Cert.Reference2Ideal.S8x8192x512 .f32 :=
  (shapeCast _ (transpose Cert.Reference2Ideal.S8x8192x4x128 [0, 3, 1, 2] (Host.dotGeneral Cert.Reference2Ideal.dot_S8x256x4x128_S8x4x8192x256_S8x4x128x8192_1_3_3_2_02_01 none (shapeCast _ a6 Cert.Reference2Ideal.Gen.shapeCasts_S8x256x512_S8x256x4x128) (Host.divf ex (broadcastInDim Cert.Reference2Ideal.S8x4x8192x256 ![0, 1, 2, 3] Cert.Reference2Ideal.Gen.bcast_S8x4x8192x1_S8x4x8192x256_0_1_2_3 (broadcastInDim Cert.Reference2Ideal.S8x4x8192x1 ![0, 1, 2] Cert.Reference2Ideal.Gen.bcast_S8x4x8192_S8x4x8192x1_0_1_2 (Host.reduceAdd ex (constant Cert.Reference2Ideal.S_ .f32 0x00000000#32) Cert.Reference2Ideal.Gen.reducesTo_S8x4x8192x256_S8x4x8192_d3 Cert.Reference2Ideal.Gen.h_S_))))) Cert.Reference2Ideal.Gen.transposes_S8x4x128x8192_S8x8192x4x128_0_3_1_2) Cert.Reference2Ideal.Gen.shapeCasts_S8x8192x4x128_S8x8192x512)

/-- The gated sum of the three branches, projected and added to the residual. -/
def MERGED (a0 : FVec Ideal Cert.Reference2Ideal.S8x8192x1024 .f32) (a1 a2 : FVec Ideal Cert.Reference2Ideal.S8x8192x512 .f32) (a4 : FVec Ideal Cert.Reference2Ideal.S8x8192x3072 .f32)
    (a7 a8 a9 : FVec Ideal Cert.Reference2Ideal.S512x1024 .f32) (a10 : FVec Ideal Cert.Reference2Ideal.S1024x1024 .f32) (om : FVec Ideal Cert.Reference2Ideal.S8x8192x512 .f32) :
    FVec Ideal Cert.Reference2Ideal.S65536x1024 .f32 :=
  shapeCast _ (addf a0 (Host.dotGeneral Cert.Reference2Ideal.dot_S8x8192x1024_S1024x1024_S8x8192x1024_2_0_01_1_n_n none (addf (addf (mulf (shapeCast _ (extractStridedSlice Cert.Reference2Ideal.S8x8192x1x1024 ![0, 0, 0, 0] (shapeCast _ a4 Cert.Reference2Ideal.Gen.shapeCasts_S8x8192x3072_S8x8192x3x1024) Cert.Reference2Ideal.Gen.slices_S8x8192x3x1024_S8x8192x1x1024_0_0_0_0) Cert.Reference2Ideal.Gen.shapeCasts_S8x8192x1x1024_S8x8192x1024) (Host.dotGeneral Cert.Reference2Ideal.dot_S8x8192x512_S512x1024_S8x8192x1024_2_0_01_1_n_n none a1 a7)) (mulf (shapeCast _ (extractStridedSlice Cert.Reference2Ideal.S8x8192x1x1024 ![0, 0, 1, 0] (shapeCast _ a4 Cert.Reference2Ideal.Gen.shapeCasts_S8x8192x3072_S8x8192x3x1024) Cert.Reference2Ideal.Gen.slices_S8x8192x3x1024_S8x8192x1x1024_0_0_1_0) Cert.Reference2Ideal.Gen.shapeCasts_S8x8192x1x1024_S8x8192x1024) (Host.dotGeneral Cert.Reference2Ideal.dot_S8x8192x512_S512x1024_S8x8192x1024_2_0_01_1_n_n none a2 a8))) (mulf (shapeCast _ (extractStridedSlice Cert.Reference2Ideal.S8x8192x1x1024 ![0, 0, 2, 0] (shapeCast _ a4 Cert.Reference2Ideal.Gen.shapeCasts_S8x8192x3072_S8x8192x3x1024) Cert.Reference2Ideal.Gen.slices_S8x8192x3x1024_S8x8192x1x1024_0_0_2_0) Cert.Reference2Ideal.Gen.shapeCasts_S8x8192x1x1024_S8x8192x1024) (Host.dotGeneral Cert.Reference2Ideal.dot_S8x8192x512_S512x1024_S8x8192x1024_2_0_01_1_n_n none om a9))) a10)) Cert.Reference2Ideal.Gen.shapeCasts_S8x8192x1024_S65536x1024

/-- The reference's result as a term over its arguments. -/
abbrev REF (a0 : FVec Ideal Cert.Reference2Ideal.S8x8192x1024 .f32) (a1 a2 a3 : FVec Ideal Cert.Reference2Ideal.S8x8192x512 .f32) (a4 : FVec Ideal Cert.Reference2Ideal.S8x8192x3072 .f32)
    (a5 a6 : FVec Ideal Cert.Reference2Ideal.S8x256x512 .f32)
    (a7 a8 a9 : FVec Ideal Cert.Reference2Ideal.S512x1024 .f32) (a10 : FVec Ideal Cert.Reference2Ideal.S1024x1024 .f32) : FVec Ideal Cert.Reference2Ideal.S65536x1024 .f32 :=
  MERGED a0 a1 a2 a4 a7 a8 a9 a10 (OM a6 (EX (SC a3 a5) (MX (SC a3 a5))))

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val / 8, 0, 0]
    ∧ win0_6.index t = ![t.val / 8, 0, 0]
    ∧ win0_7.index t = ![0, 0]
    ∧ win0_8.index t = ![0, 0]
    ∧ win0_9.index t = ![0, 0]
    ∧ win0_10.index t = ![0, 0]
    ∧ win0_11.index t = ![t.val, 0] :=
  (by decide +kernel : ∀ t : Fin grid0.N, _)

/-- One head's softmax-weighted sum of values, as the kernel takes it. -/
def attn (s : Fin 256 → EReal) (v : Fin 256 → EReal) : EReal :=
  ∑ j, (Ideal.exp (s j - Finset.univ.fold max ⊥ s) * Ideal.div 1 (∑ i, Ideal.exp (s i - Finset.univ.fold max ⊥ s))) * v j

/-- One head over its slices of queries, keys and values. -/
def headK (v6 : FVec Ideal S1024x128 .bf16) (v7 v21 : FVec Ideal S256x128 .bf16) : FVec Ideal S1024x128 .f32 :=
  have v8 : FVec Ideal S1024x256 .f32 := matmul dot_S1024x128_S256x128_S1024x256_1_1_0_0_n_n none v6 v7 (constant S1024x256 .f32 0x00000000#32)
  have v9 : FVec Ideal S1024 .f32 := multiReduction .maximumf [1] S1024 v8 0xFF800000#32 reduces_S1024x256_S1024 (.inl rfl) rfl
  have v13 : FVec Ideal S1024x256 .f32 := exp (subf v8 (broadcastTo S1024x256 (shapeCast S1024x1 v9 shapeCasts_S1024_S1024x1) broadcasts_S1024x1_S1024x256))
  have v14 : FVec Ideal S1024 .f32 := multiReduction .add [1] S1024 v13 0x00000000#32 reduces_S1024x256_S1024 (.inl rfl) rfl
  have v17 : FVec Ideal S1024x1 .f32 := divf (broadcast S1024x1 (Scalar.ofBits .f32 0x3F800000#32)) (shapeCast S1024x1 v14 shapeCasts_S1024_S1024x1)
  have v20 : FVec Ideal S1024x256 .bf16 := truncf .bf16 (mulf v13 (broadcastTo S1024x256 v17 broadcasts_S1024x1_S1024x256)) bitsLt_bf16_f32
  matmul dot_S1024x256_S256x128_S1024x128_1_0_0_1_n_n none v20 v21 (constant S1024x128 .f32 0x00000000#32)

theorem headK_apply (q : FVec Ideal S1024x128 .bf16) (k v : FVec Ideal S256x128 .bf16) (r : Fin 1024) (d : Fin 128) :
    headK q k v (ix2 r d) = attn (fun j => ∑ i, q (ix2 r i) * k (ix2 j i)) (fun j => v (ix2 j d)) := by
  pointwise [headK, attn]
  rw [Cert.IdealFacts.ofBits_neg_inf]

theorem pay8_apply (b3 : Vec Ideal S1024x512 .bf16) (b5 b6 : Vec Ideal S1x256x512 .bf16) (r : Fin 1024) (l : Fin 512) :
    k0_pay8 (k0_pay2 b3) (k0_pay3 b5) (k0_pay4 b6) (k0_pay5 b3 b5 b6) (k0_pay6 b3 b5 b6) (k0_pay7 b3) (ix2 r l)
      = attn (fun j => ∑ i : Fin 128, b3 (ix2 r ⟨l.val / 128 * 128 + i.val, by omega⟩) * b5 (ix3 0 j ⟨l.val / 128 * 128 + i.val, by omega⟩)) (fun j => b6 (ix3 0 j l)) := by
  change (truncf .bf16 (concatenate S1024x512 1 [⟨S1024x128, headK (extractStridedSlice S1024x128 ![0, 0] (k0_pay2 b3) slices_S1024x512_o0_0_S1024x128) (extractStridedSlice S256x128 ![0, 0] (k0_pay3 b5) slices_S256x512_o0_0_S256x128) (extractStridedSlice S256x128 ![0, 0] (k0_pay4 b6) slices_S256x512_o0_0_S256x128)⟩,
    ⟨S1024x128, headK (extractStridedSlice S1024x128 ![0, 128] (k0_pay2 b3) slices_S1024x512_o0_128_S1024x128) (extractStridedSlice S256x128 ![0, 128] (k0_pay3 b5) slices_S256x512_o0_128_S256x128) (extractStridedSlice S256x128 ![0, 128] (k0_pay4 b6) slices_S256x512_o0_128_S256x128)⟩,
    ⟨S1024x128, headK (extractStridedSlice S1024x128 ![0, 256] (k0_pay2 b3) slices_S1024x512_o0_256_S1024x128) (extractStridedSlice S256x128 ![0, 256] (k0_pay3 b5) slices_S256x512_o0_256_S256x128) (extractStridedSlice S256x128 ![0, 256] (k0_pay4 b6) slices_S256x512_o0_256_S256x128)⟩,
    ⟨S1024x128, headK (extractStridedSlice S1024x128 ![0, 384] (k0_pay2 b3) slices_S1024x512_o0_384_S1024x128) (extractStridedSlice S256x128 ![0, 384] (k0_pay3 b5) slices_S256x512_o0_384_S256x128) (extractStridedSlice S256x128 ![0, 384] (k0_pay4 b6) slices_S256x512_o0_384_S256x128)⟩] concatenates_S1024x128_S1024x128_S1024x128_S1024x128_S1024x512_d1) bitsLt_bf16_f32 : FVec Ideal S1024x512 .bf16) (ix2 r l) = _
  pointwise
  have key : ∀ (o : ℕ) (ho : o + 128 ≤ 512) (d : Fin 128) (hs1 hs2 hs3), headK (extractStridedSlice S1024x128 ![0, o] (k0_pay2 b3) hs1) (extractStridedSlice S256x128 ![0, o] (k0_pay3 b5) hs2)
      (extractStridedSlice S256x128 ![0, o] (k0_pay4 b6) hs3) (ix2 r d)
      = attn (fun j => ∑ i : Fin 128, b3 (ix2 r ⟨o + i.val, by omega⟩) * b5 (ix3 0 j ⟨o + i.val, by omega⟩)) (fun j => b6 (ix3 0 j ⟨o + d.val, by omega⟩)) := by
    intro o ho d hs1 hs2 hs3
    rw [headK_apply]
    pointwise [k0_pay2, k0_pay3, k0_pay4]
  have hl : ∀ (o : ℕ) (ho : o + 128 ≤ 512) (d : Fin 128), o + d.val = l.val → o = l.val / 128 * 128 →
      attn (fun j => ∑ i : Fin 128, b3 (ix2 r ⟨o + i.val, by omega⟩) * b5 (ix3 0 j ⟨o + i.val, by omega⟩)) (fun j => b6 (ix3 0 j ⟨o + d.val, by omega⟩))
      = attn (fun j => ∑ i : Fin 128, b3 (ix2 r ⟨l.val / 128 * 128 + i.val, by omega⟩) * b5 (ix3 0 j ⟨l.val / 128 * 128 + i.val, by omega⟩)) (fun j => b6 (ix3 0 j l)) := by
    intro o ho d e e1
    have e2 : l = ⟨o + d.val, by omega⟩ := Fin.ext e.symm
    simp only [← e1]
    rw [← e2]
  split_ifs
  all_goals first
    | (rw [key 0 (by omega)]; exact hl 0 (by omega) ⟨l.val, by omega⟩ (by simp) (by omega))
    | (rw [key 128 (by omega)]; exact hl 128 (by omega) ⟨l.val - 128, by omega⟩ (by simp; omega) (by omega))
    | (rw [key 256 (by omega)]; exact hl 256 (by omega) ⟨l.val - 128 - 128, by omega⟩ (by simp; omega) (by omega))
    | (rw [key 384 (by omega)]; exact hl 384 (by omega) ⟨l.val - 128 - 128 - 128, by omega⟩ (by simp; omega) (by omega))

theorem sc_ref (a3 : FVec Ideal Cert.Reference2Ideal.S8x8192x512 .f32) (a5 : FVec Ideal Cert.Reference2Ideal.S8x256x512 .f32) (b : Fin 8) (h : Fin 4) (s : Fin 8192) (j : Fin 256) :
    SC a3 a5 (ix4 b h s j) = (∑ i : Fin 128, a3 (ix3 b s ⟨h.val * 128 + i.val, by omega⟩) * a5 (ix3 b j ⟨h.val * 128 + i.val, by omega⟩)) * Ideal.ofBits .f32 0x3DB504F3#32 := by
  pointwise [SC]

theorem mx_ref (sc : FVec Ideal Cert.Reference2Ideal.S8x4x8192x256 .f32) (b : Fin 8) (h : Fin 4) (s : Fin 8192) :
    MX sc (ix3 b h s) = Finset.univ.fold max ⊥ fun i => sc (ix4 b h s i) := by
  unfold MX
  rw [Cert.IdealFacts.host_max_r4]
  show Finset.univ.fold max (Ideal.ofBits .f32 0xFF800000#32) _ = _
  rw [Cert.IdealFacts.ofBits_neg_inf]

theorem ex_row (sc : FVec Ideal Cert.Reference2Ideal.S8x4x8192x256 .f32) (mx : FVec Ideal Cert.Reference2Ideal.S8x4x8192 .f32) (b : Fin 8) (h : Fin 4) (s : Fin 8192) (j : Fin 256) :
    EX sc mx (ix4 b h s j) = Ideal.exp (sc (ix4 b h s j) - max (Ideal.ofBits .f32 0xFF800000#32) (mx (ix3 b h s))) := by
  pointwise [EX]

theorem ex_ref (sc : FVec Ideal Cert.Reference2Ideal.S8x4x8192x256 .f32) (b : Fin 8) (h : Fin 4) (s : Fin 8192) (j : Fin 256) :
    EX sc (MX sc) (ix4 b h s j) = Ideal.exp (sc (ix4 b h s j) - Finset.univ.fold max ⊥ fun i => sc (ix4 b h s i)) := by
  rw [ex_row, mx_ref, Cert.IdealFacts.ofBits_neg_inf, max_eq_right bot_le]

theorem om_ref (a6 : FVec Ideal Cert.Reference2Ideal.S8x256x512 .f32) (ex : FVec Ideal Cert.Reference2Ideal.S8x4x8192x256 .f32) (b : Fin 8) (s : Fin 8192) (h : Fin 4) (d : Fin 128) :
    OM a6 ex (ix3 b s ⟨h.val * 128 + d.val, by omega⟩) = ∑ j, a6 (ix3 b j ⟨h.val * 128 + d.val, by omega⟩) * Ideal.div (ex (ix4 b h s j)) (∑ i, ex (ix4 b h s i)) := by
  pointwise [OM]

/-- The factor on the scores, as the real its word denotes. -/
theorem scale_real : ∃ c : ℝ, Ideal.ofBits .f32 0x3DB504F3#32 = (c : EReal) := by
  simp [Ideal.ofBits, Ideal.ieee, -EReal.coe_mul]

/-- One head's softmax-weighted sum as the reference takes it: the same where every score is real. -/
theorem attn_eq (s : Fin 256 → ℝ) (v : Fin 256 → EReal) :
    attn (fun j => (s j : EReal)) v = ∑ j, v j * Ideal.div (Ideal.exp ((s j : EReal) - Finset.univ.fold max ⊥ fun i => (s i : EReal)))
      (∑ i, Ideal.exp ((s i : EReal) - Finset.univ.fold max ⊥ fun i => (s i : EReal))) := by
  obtain ⟨M, hM, -, -⟩ := Cert.IdealFacts.fold_max_coe s
  unfold attn
  rw [hM]
  have hz : (∑ i, Ideal.exp ((s i : EReal) - (M : EReal))) ≠ 0 := by
    have : (∑ i, Ideal.exp ((s i : EReal) - (M : EReal))) = ((∑ i, Real.exp (s i - M) : ℝ) : EReal) := by
      rw [Cert.IdealFacts.coe_sum]
      exact Finset.sum_congr rfl fun i _ => by rw [← EReal.coe_sub, Cert.IdealFacts.exp_coe]
    rw [this]
    have h0 : 0 < ∑ i, Real.exp (s i - M) := Finset.sum_pos (fun i _ => Real.exp_pos _) ⟨0, Finset.mem_univ _⟩
    exact_mod_cast h0.ne'
  refine Finset.sum_congr rfl fun j _ => ?_
  rw [Ideal.mul_one_div hz, mul_comm]

/-- A score of scaled queries is the scaled score, all of them real. -/
theorem score_eq (q k : Fin 128 → EReal) (c : EReal) (hq : ∀ i, ∃ r : ℝ, q i = r) (hk : ∀ i, ∃ r : ℝ, k i = r) (hc : ∃ r : ℝ, c = r) :
    ∃ r : ℝ, ∑ i, q i * c * k i = r ∧ (∑ i, q i * k i) * c = r := by
  choose q' hq' using hq
  choose k' hk' using hk
  obtain ⟨c', rfl⟩ := hc
  refine ⟨∑ i, q' i * c' * k' i, ?_, ?_⟩
  · simp only [hq', hk', Cert.IdealFacts.coe_sum, EReal.coe_mul]
  · simp only [hq', hk', ← EReal.coe_mul, ← Cert.IdealFacts.coe_sum, Finset.sum_mul]
    congr 1
    exact Finset.sum_congr rfl fun i _ => by ring

/-- The memory attention of the reference at an entry, all queries and keys real: the kernel's sums. -/
theorem mem_eq (a3 : FVec Ideal Cert.Reference2Ideal.S8x8192x512 .f32) (a5 a6 : FVec Ideal Cert.Reference2Ideal.S8x256x512 .f32) (hq : ∀ i, ∃ r : ℝ, a3 i = (r : EReal)) (hk : ∀ i, ∃ r : ℝ, a5 i = (r : EReal))
    (b : Fin 8) (s : Fin 8192) (l : Fin 512) :
    OM a6 (EX (SC a3 a5) (MX (SC a3 a5))) (ix3 b s l)
      = attn (fun j => ∑ i : Fin 128, a3 (ix3 b s ⟨l.val / 128 * 128 + i.val, by omega⟩) * Ideal.ofBits .f32 0x3DB504F3#32 * a5 (ix3 b j ⟨l.val / 128 * 128 + i.val, by omega⟩)) (fun j => a6 (ix3 b j l)) := by
  obtain ⟨h, d, rfl⟩ : ∃ (h : Fin 4) (d : Fin 128), l = ⟨h.val * 128 + d.val, by omega⟩ :=
    ⟨⟨l.val / 128, by omega⟩, ⟨l.val % 128, by omega⟩, Fin.ext (by simp; omega)⟩
  have hd : (h.val * 128 + d.val) / 128 = h.val := by omega
  rw [om_ref]
  simp only [hd, ex_ref, sc_ref]
  choose s' hs1 hs2 using fun j : Fin 256 => score_eq (fun i : Fin 128 => a3 (ix3 b s ⟨h.val * 128 + i.val, by omega⟩)) (fun i => a5 (ix3 b j ⟨h.val * 128 + i.val, by omega⟩))
    (Ideal.ofBits .f32 0x3DB504F3#32) (fun i => hq _) (fun i => hk _) scale_real
  simp only [hs1, hs2]
  exact (attn_eq s' _).symm

/-- One entry of the merge's result, over its row of the residual, the gates, the three branches and the weights. -/
def entry (x : EReal) (g0 g1 g2 : Fin 1024 → EReal) (on uc om : Fin 512 → EReal) (wn wc wm : Fin 512 → Fin 1024 → EReal) (wo : Fin 1024 → EReal) : EReal :=
  x + ∑ k, (g0 k * (∑ i, on i * wn i k) + g1 k * (∑ i, uc i * wc i k) + g2 k * ∑ i, om i * wm i k) * wo k

/-- Equal rows and weights give equal entries. -/
theorem entry_congr {x x' : EReal} {g0 g0' g1 g1' g2 g2' : Fin 1024 → EReal} {on on' uc uc' om om' : Fin 512 → EReal}
    {wn wn' wc wc' wm wm' : Fin 512 → Fin 1024 → EReal} {wo wo' : Fin 1024 → EReal} (hx : x = x') (h0 : ∀ k, g0 k = g0' k) (h1 : ∀ k, g1 k = g1' k)
    (h2 : ∀ k, g2 k = g2' k) (h3 : ∀ k, on k = on' k) (h4 : ∀ k, uc k = uc' k) (h5 : ∀ k, om k = om' k) (h6 : ∀ i k, wn i k = wn' i k)
    (h7 : ∀ i k, wc i k = wc' i k) (h8 : ∀ i k, wm i k = wm' i k) (h9 : ∀ k, wo k = wo' k) :
    entry x g0 g1 g2 on uc om wn wc wm wo = entry x' g0' g1' g2' on' uc' om' wn' wc' wm' wo' := by
  simp only [entry, hx, h0, h1, h2, h3, h4, h5, h6, h7, h8, h9]

theorem payload (p8 : FVec Ideal S1024x512 .bf16) (b0 : Vec Ideal S1024x1024 .f32) (b1 b2 : Vec Ideal S1024x512 .bf16) (b4 : Vec Ideal S1024x3072 .bf16)
    (b7 b8 b9 : Vec Ideal S512x1024 .bf16) (b10 : Vec Ideal S1024x1024 .bf16) (r l : Fin 1024) :
    k0_pay1 p8 (k0_pay9 (View.ld b4 r0_2)) (k0_pay10 b1 b7) (View.ld b4 r0_4) b2 b8 (View.ld b4 r0_5) b9 b0 b10 (ix2 r l)
      = entry (b0 (ix2 r l)) (fun k => b4 (ix2 r ⟨k.val, by omega⟩)) (fun k => b4 (ix2 r ⟨1024 + k.val, by omega⟩)) (fun k => b4 (ix2 r ⟨2048 + k.val, by omega⟩))
        (fun i => b1 (ix2 r i)) (fun i => b2 (ix2 r i)) (fun i => p8 (ix2 r i)) (fun i k => b7 (ix2 i k)) (fun i k => b8 (ix2 i k)) (fun i k => b9 (ix2 i k)) (fun k => b10 (ix2 k l)) := by
  pointwise [k0_pay1, k0_pay9, k0_pay10]
  unfold entry
  try rfl

theorem ref_entry (a0 : FVec Ideal Cert.Reference2Ideal.S8x8192x1024 .f32) (a1 a2 : FVec Ideal Cert.Reference2Ideal.S8x8192x512 .f32) (a4 : FVec Ideal Cert.Reference2Ideal.S8x8192x3072 .f32)
    (a7 a8 a9 : FVec Ideal Cert.Reference2Ideal.S512x1024 .f32) (a10 : FVec Ideal Cert.Reference2Ideal.S1024x1024 .f32) (om : FVec Ideal Cert.Reference2Ideal.S8x8192x512 .f32) (r : Fin 65536) (l : Fin 1024) :
    MERGED a0 a1 a2 a4 a7 a8 a9 a10 om (ix2 r l)
      = entry (a0 (ix3 ⟨r.val / 8192, by omega⟩ ⟨r.val % 8192, by omega⟩ l))
        (fun k => a4 (ix3 ⟨r.val / 8192, by omega⟩ ⟨r.val % 8192, by omega⟩ ⟨k.val, by omega⟩))
        (fun k => a4 (ix3 ⟨r.val / 8192, by omega⟩ ⟨r.val % 8192, by omega⟩ ⟨1024 + k.val, by omega⟩))
        (fun k => a4 (ix3 ⟨r.val / 8192, by omega⟩ ⟨r.val % 8192, by omega⟩ ⟨2048 + k.val, by omega⟩))
        (fun i => a1 (ix3 ⟨r.val / 8192, by omega⟩ ⟨r.val % 8192, by omega⟩ i)) (fun i => a2 (ix3 ⟨r.val / 8192, by omega⟩ ⟨r.val % 8192, by omega⟩ i))
        (fun i => om (ix3 ⟨r.val / 8192, by omega⟩ ⟨r.val % 8192, by omega⟩ i))
        (fun i k => a7 (ix2 i k)) (fun i k => a8 (ix2 i k)) (fun i k => a9 (ix2 i k)) (fun k => a10 (ix2 k l)) := by
  pointwise [MERGED]
  unfold entry
  try rfl

/-- The scaled query block reads the scaled query row. -/
theorem e3_read (c : Dev nD) (t : Fin cfg0.N) (r : Fin 1024) (j : Fin 512) : iblk m c 3 t (ix2 r j)
    = @HMul.hMul EReal EReal EReal _ (m ((c : Thread nD τ).loc main_arg3) (ix3 ⟨(1024 * t.val + r.val) / 8192, by have : t.val < 64 := t.isLt; omega⟩ ⟨(1024 * t.val + r.val) % 8192, by omega⟩ j)) (Ideal.ofBits .f32 0x3DB504F3#32) := by
  have ht : t.val < 64 := t.isLt
  blk_simp [iblk, idx_val t]
  entry_read
  pointwise
  refine congrArg (fun x : EReal => x * Ideal.ofBits .f32 0x3DB504F3#32) ?_
  blk_ext [idx_val t]

set_option maxHeartbeats 1600000 in
/-- What the body stores at block index `y` of point `t` is the reference at the array index `y` sits at. -/
theorem point (c : Dev nD) (hq : ∀ i, ∃ r : ℝ, m ((c : Thread nD τ).loc main_arg3) i = (r : EReal)) (hk : ∀ i, ∃ r : ℝ, m ((c : Thread nD τ).loc main_arg5) i = (r : EReal)) (t : Fin cfg0.N) (y) :
    k0_pay1 (k0_pay8 (k0_pay2 (iblk m c 3 t)) (k0_pay3 (iblk m c 5 t)) (k0_pay4 (iblk m c 6 t)) (k0_pay5 (iblk m c 3
      t) (iblk m c 5 t) (iblk m c 6 t)) (k0_pay6 (iblk m c 3 t) (iblk m c 5 t) (iblk m c 6 t)) (k0_pay7 (iblk m c 3 t)))
      (k0_pay9 (View.ld (iblk m c 4 t) r0_2)) (k0_pay10 (iblk m c 1 t) (iblk m c 7 t)) (View.ld (iblk m c 4 t) r0_4)
      (iblk m c 2 t) (iblk m c 8 t) (View.ld (iblk m c 4 t) r0_5) (iblk m c 9 t) (iblk m c 0 t) (iblk m c 10 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (m ((c : Thread nD τ).loc main_arg9)) (m ((c : Thread nD τ).loc main_arg10)) (((cfg0.win
        11).blk t).view.emb y) := by
  obtain ⟨r, l, rfl⟩ : ∃ r l, y = ix2 r l := ⟨y 0, y 1, eq_ix2 y⟩
  refine (payload _ (iblk m c 0 t) (iblk m c 1 t) (iblk m c 2 t) (iblk m c 4 t) (iblk m c 7 t) (iblk m c 8 t) (iblk m c 9 t) (iblk m c 10 t) r l).trans ?_
  have ht : t.val < 64 := t.isLt
  have e : ((cfg0.win 11).blk t).view.emb (ix2 r l) = ix2 ⟨1024 * t.val + r.val, by omega⟩ l := by
    blk_ext [idx_val t]
  rw [e]; unfold REF; rw [ref_entry]
  have e0 : iblk m c 0 t (ix2 r l) = m ((c : Thread nD τ).loc main_arg0) (ix3 ⟨(1024 * t.val + r.val) / 8192, by omega⟩ ⟨(1024 * t.val + r.val) % 8192, by omega⟩ l) := by
    blk_point [iblk, V, idx_val t]
  have e1 : ∀ j, iblk m c 1 t (ix2 r j) = m ((c : Thread nD τ).loc main_arg1) (ix3 ⟨(1024 * t.val + r.val) / 8192, by omega⟩ ⟨(1024 * t.val + r.val) % 8192, by omega⟩ j) := fun j => by
    blk_point [iblk, V, idx_val t]
  have e2 : ∀ j, iblk m c 2 t (ix2 r j) = m ((c : Thread nD τ).loc main_arg2) (ix3 ⟨(1024 * t.val + r.val) / 8192, by omega⟩ ⟨(1024 * t.val + r.val) % 8192, by omega⟩ j) := fun j => by
    blk_point [iblk, V, idx_val t]
  have e3 := e3_read m c t r
  have e4 : ∀ j, iblk m c 4 t (ix2 r j) = m ((c : Thread nD τ).loc main_arg4) (ix3 ⟨(1024 * t.val + r.val) / 8192, by omega⟩ ⟨(1024 * t.val + r.val) % 8192, by omega⟩ j) := fun j => by
    blk_point [iblk, V, idx_val t]
  have e5 : ∀ i j, iblk m c 5 t (ix3 0 i j) = m ((c : Thread nD τ).loc main_arg5) (ix3 ⟨(1024 * t.val + r.val) / 8192, by omega⟩ i j) := fun i j => by
    blk_point [iblk, V, idx_val t]
  have e6 : ∀ i j, iblk m c 6 t (ix3 0 i j) = m ((c : Thread nD τ).loc main_arg6) (ix3 ⟨(1024 * t.val + r.val) / 8192, by omega⟩ i j) := fun i j => by
    blk_point [iblk, V, idx_val t]
  have e7 : ∀ i j, iblk m c 7 t (ix2 i j) = m ((c : Thread nD τ).loc main_arg7) (ix2 i j) := fun i j => by
    blk_point [iblk, V, idx_val t]
  have e8 : ∀ i j, iblk m c 8 t (ix2 i j) = m ((c : Thread nD τ).loc main_arg8) (ix2 i j) := fun i j => by
    blk_point [iblk, V, idx_val t]
  have e9 : ∀ i j, iblk m c 9 t (ix2 i j) = m ((c : Thread nD τ).loc main_arg9) (ix2 i j) := fun i j => by
    blk_point [iblk, V, idx_val t]
  have e10 : ∀ i j, iblk m c 10 t (ix2 i j) = m ((c : Thread nD τ).loc main_arg10) (ix2 i j) := fun i j => by
    blk_point [iblk, V, idx_val t]
  have ea : ∀ i, k0_pay8 (k0_pay2 (iblk m c 3 t)) (k0_pay3 (iblk m c 5 t)) (k0_pay4 (iblk m c 6 t)) (k0_pay5 (iblk m c 3
      t) (iblk m c 5 t) (iblk m c 6 t)) (k0_pay6 (iblk m c 3 t) (iblk m c 5 t) (iblk m c 6 t)) (k0_pay7 (iblk m c 3 t)) (ix2 r i)
      = OM (m ((c : Thread nD τ).loc main_arg6)) (EX (SC (m ((c : Thread nD τ).loc main_arg3)) (m ((c : Thread nD τ).loc main_arg5))) (MX (SC (m ((c : Thread nD τ).loc main_arg3)) (m ((c : Thread nD τ).loc main_arg5)))))
        (ix3 ⟨(1024 * t.val + r.val) / 8192, by omega⟩ ⟨(1024 * t.val + r.val) % 8192, by omega⟩ i) := by
    intro i
    refine (pay8_apply (iblk m c 3 t) (iblk m c 5 t) (iblk m c 6 t) r i).trans ?_
    simp only [e3, e5, e6]
    exact (mem_eq (m ((c : Thread nD τ).loc main_arg3)) (m ((c : Thread nD τ).loc main_arg5)) (m ((c : Thread nD τ).loc main_arg6)) hq hk _ _ i).symm
  exact entry_congr e0 (fun k => e4 _) (fun k => e4 _) (fun k => e4 _) e1 e2 ea e7 e8 e9 (fun k => e10 k l)

/-- The result array after the run is the reference's result. -/
theorem final (c : Dev nD) (hq : ∀ i, ∃ r : ℝ, m ((c : Thread nD τ).loc main_arg3) i = (r : EReal)) (hk : ∀ i, ∃ r : ℝ, m ((c : Thread nD τ).loc main_arg5) i = (r : EReal)) :
    (dats m 0 c).arrAt 11 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp; rw [after0_11]; frame_out
  exact point m c hq hk t y

end Cert.Kernel2Ideal.Value

end
-- ==== Proof.InprojFrame.lean ====
/- The launch of the input projection: what each grid point leaves, and the run of the whole program with its frame. -/
module

public import proofs.«01_k».proof.Proof.Gen.Kernel4Ideal.Frame.RunB
public import Idealize.ShloMosaic.Lib.Claim

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a row block that opens a batch. -/
def runA (c : Dev nD) (t : Fin cfg0.N) (h : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h) (fun g => (hcond0_1 t).mp g h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at any other row block, over what the convolution's window of rows holds. -/
def runB (c : Dev nD) (t : Fin cfg0.N) (h : ¬t.val % 16 = 0) (x : Vec F S544x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun g => h ((hcond0_0 t).mp g)) ((hcond0_1 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) x

/-- What a grid point leaves: the blocks of the eleven results, then the convolution's window of rows. -/
abbrev Left (F : FTy → Type) [FloatOps F] : Type :=
  Vec F S1x8x512x64 .bf16 × Vec F S1x2x512x64 .f32 × Vec F S1x2x512x64 .f32 × Vec F S1x2x512x256 .bf16 × Vec F S1x2x512x128 .bf16 × Vec F S1x2x512x128 .bf16 × Vec F S1x2x512x128 .bf16 × Vec F S1x2x512x128 .bf16 × Vec F S512x512 .bf16 × Vec F S512x512 .bf16 × Vec F S512x3072 .bf16 × Vec F S544x512 .f32

/-- What the body leaves at a row block of case A: the run's pieces read back. -/
def leftA (c : Dev nD) (t : Fin cfg0.N) (h : t.val % 16 = 0) : Left F :=
  (VO0_19.read (Elt F) (VO0_19.writes (Elt F) VO0_19.junk (runA m c t h).1),
    VO0_20.read (Elt F) (VO0_20.writes (Elt F) VO0_20.junk (runA m c t h).2.1),
    VO0_21.read (Elt F) (VO0_21.writes (Elt F) VO0_21.junk (runA m c t h).2.2.1),
    VO0_22.read (Elt F) (VO0_22.writes (Elt F) VO0_22.junk (runA m c t h).2.2.2.1),
    VO0_23.read (Elt F) (VO0_23.writes (Elt F) VO0_23.junk (runA m c t h).2.2.2.2.1),
    VO0_24.read (Elt F) (VO0_24.writes (Elt F) VO0_24.junk (runA m c t h).2.2.2.2.2.1),
    VO0_25.read (Elt F) (VO0_25.writes (Elt F) VO0_25.junk (runA m c t h).2.2.2.2.2.2.1),
    VO0_26.read (Elt F) (VO0_26.writes (Elt F) VO0_26.junk (runA m c t h).2.2.2.2.2.2.2.1),
    VO0_27.read (Elt F) (VO0_27.writes (Elt F) VO0_27.junk (runA m c t h).2.2.2.2.2.2.2.2.1),
    VO0_28.read (Elt F) (VO0_28.writes (Elt F) VO0_28.junk (runA m c t h).2.2.2.2.2.2.2.2.2.1),
    VO0_29.read (Elt F) (VO0_29.writes (Elt F) VO0_29.junk (runA m c t h).2.2.2.2.2.2.2.2.2.2.1),
    VS0_0.read (Elt F) (VS0_0.writes (Elt F) VS0_0.junk (runA m c t h).2.2.2.2.2.2.2.2.2.2.2.1))

/-- What the body leaves at a row block of case B: the run's pieces read back. -/
def leftB (c : Dev nD) (t : Fin cfg0.N) (h : ¬t.val % 16 = 0) (x : Vec F S544x512 .f32) : Left F :=
  (VO0_19.read (Elt F) (VO0_19.writes (Elt F) VO0_19.junk (runB m c t h x).1),
    VO0_20.read (Elt F) (VO0_20.writes (Elt F) VO0_20.junk (runB m c t h x).2.1),
    VO0_21.read (Elt F) (VO0_21.writes (Elt F) VO0_21.junk (runB m c t h x).2.2.1),
    VO0_22.read (Elt F) (VO0_22.writes (Elt F) VO0_22.junk (runB m c t h x).2.2.2.1),
    VO0_23.read (Elt F) (VO0_23.writes (Elt F) VO0_23.junk (runB m c t h x).2.2.2.2.1),
    VO0_24.read (Elt F) (VO0_24.writes (Elt F) VO0_24.junk (runB m c t h x).2.2.2.2.2.1),
    VO0_25.read (Elt F) (VO0_25.writes (Elt F) VO0_25.junk (runB m c t h x).2.2.2.2.2.2.1),
    VO0_26.read (Elt F) (VO0_26.writes (Elt F) VO0_26.junk (runB m c t h x).2.2.2.2.2.2.2.1),
    VO0_27.read (Elt F) (VO0_27.writes (Elt F) VO0_27.junk (runB m c t h x).2.2.2.2.2.2.2.2.1),
    VO0_28.read (Elt F) (VO0_28.writes (Elt F) VO0_28.junk (runB m c t h x).2.2.2.2.2.2.2.2.2.1),
    VO0_29.read (Elt F) (VO0_29.writes (Elt F) VO0_29.junk (runB m c t h x).2.2.2.2.2.2.2.2.2.2.1),
    VS0_0.read (Elt F) (VS0_0.writes (Elt F) VS0_0.junk (runB m c t h x).2.2.2.2.2.2.2.2.2.2.2.1))

/-- What the launch leaves after the point at position `n`. -/
def left (c : Dev nD) : (n : ℕ) → n < cfg0.N → Left F
  | 0, hn => leftA m c ⟨0, hn⟩ (Nat.zero_mod 16)
  | n + 1, hn =>
    if h : (n + 1) % 16 = 0 then leftA m c ⟨n + 1, hn⟩ h
    else leftB m c ⟨n + 1, hn⟩ h (left c n (Nat.lt_of_succ_lt hn)).2.2.2.2.2.2.2.2.2.2.2

theorem left_A (c : Dev nD) (t : Fin cfg0.N) (h : t.val % 16 = 0) : left m c t.val t.isLt = leftA m c t h := by
  obtain ⟨n, hn⟩ := t
  cases n with
  | zero => rfl
  | succ n => exact dif_pos h

theorem left_B (c : Dev nD) (t : Fin cfg0.N) (h : ¬t.val % 16 = 0) :
    left m c t.val t.isLt = leftB m c t h (left m c (t.val - 1) (Nat.lt_of_le_of_lt (Nat.sub_le _ _) t.isLt)).2.2.2.2.2.2.2.2.2.2.2 := by
  obtain ⟨n, hn⟩ := t
  cases n with
  | zero => exact absurd (Nat.zero_mod 16) h
  | succ n => exact dif_neg h

/-- What the body may use and must give back around position `n`: the convolution's window of rows as the point before left it. -/
def Carried (c : Dev nD) : (n : ℕ) → n ≤ cfg0.N → sProp 𝕄
  | 0, _ => Pipeline.ΦA spec0 c
  | n + 1, hn => iprop(iprop(owns (c : Thread nD τ) scM0_0 fullShare ((left m c n hn).2.2.2.2.2.2.2.2.2.2.2) ∗ (∃ d, owns (c : Thread nD τ) scM0_1 fullShare d)) ∗ (∃ r, prngReg c r))

theorem carried_succ (c : Dev nD) (n : ℕ) (hn : n < cfg0.N) :
    Carried m c (n + 1) hn = iprop(iprop(owns (c : Thread nD τ) scM0_0 fullShare ((left m c n hn).2.2.2.2.2.2.2.2.2.2.2) ∗ (∃ d, owns (c : Thread nD τ) scM0_1 fullShare d)) ∗ (∃ r, prngReg c r)) := rfl

theorem carried_pos (c : Dev nD) (n : ℕ) (h : n ≤ cfg0.N) (hz : n ≠ 0) :
    Carried m c n h = iprop(iprop(owns (c : Thread nD τ) scM0_0 fullShare ((left m c (n - 1) (by omega)).2.2.2.2.2.2.2.2.2.2.2) ∗ (∃ d, owns (c : Thread nD τ) scM0_1 fullShare d)) ∗ (∃ r, prngReg c r)) := by
  cases n with
  | zero => exact absurd rfl hz
  | succ n => rfl

/-- At any position the carried rows may be forgotten. -/
theorem carried_forget (c : Dev nD) (n : ℕ) (h : n ≤ cfg0.N) : Carried m c n h ⊢ Pipeline.ΦA spec0 c := by
  by_cases hz : n = 0
  · subst hz; exact Idealize.SL.BI.Entails.refl _
  · rw [carried_pos m c n h hz, PhiA0_eq]
    iintro ⟨⟨HS0, HS1⟩, Hg⟩
    isplitl [HS0 HS1]
    · isplitl [HS0]
      · iexists _; iexact HS0
      iexact HS1
    iexact Hg

theorem carried_open (c : Dev nD) (n : ℕ) (h : n ≤ cfg0.N) :
    Carried m c n h ⊢ iprop(iprop((∃ d, owns (c : Thread nD τ) scM0_0 fullShare d) ∗ (∃ d, owns (c : Thread nD τ) scM0_1 fullShare d)) ∗ (∃ r, prngReg c r)) := by
  have e := carried_forget m c n h
  rwa [PhiA0_eq] at e

/-- The launch's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (left m c t.val t.isLt).1
    | ⟨20, _⟩ => (left m c t.val t.isLt).2.1
    | ⟨21, _⟩ => (left m c t.val t.isLt).2.2.1
    | ⟨22, _⟩ => (left m c t.val t.isLt).2.2.2.1
    | ⟨23, _⟩ => (left m c t.val t.isLt).2.2.2.2.1
    | ⟨24, _⟩ => (left m c t.val t.isLt).2.2.2.2.2.1
    | ⟨25, _⟩ => (left m c t.val t.isLt).2.2.2.2.2.2.1
    | ⟨26, _⟩ => (left m c t.val t.isLt).2.2.2.2.2.2.2.1
    | ⟨27, _⟩ => (left m c t.val t.isLt).2.2.2.2.2.2.2.2.1
    | ⟨28, _⟩ => (left m c t.val t.isLt).2.2.2.2.2.2.2.2.2.1
    | ⟨29, _⟩ => (left m c t.val t.isLt).2.2.2.2.2.2.2.2.2.2.1
    | ⟨_ + 30, h⟩ => absurd h (Nat.not_lt.2 (Nat.le_add_left _ _))
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) : (dats m 0 c).Φ t.castSucc = Carried m c t.val (Nat.le_of_lt t.isLt) := by
  dsimp only [dats]; exact Pipeline.Dat.Φ_castSucc (Carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = (left m c t.val t.isLt).1 := by dsimp only [dats]
theorem after_20 (c : Dev nD) (t : Fin cfg0.N) : (dats m 0 c).after 20 t = (left m c t.val t.isLt).2.1 := by dsimp only [dats]
theorem after_21 (c : Dev nD) (t : Fin cfg0.N) : (dats m 0 c).after 21 t = (left m c t.val t.isLt).2.2.1 := by dsimp only [dats]
theorem after_22 (c : Dev nD) (t : Fin cfg0.N) : (dats m 0 c).after 22 t = (left m c t.val t.isLt).2.2.2.1 := by dsimp only [dats]
theorem after_23 (c : Dev nD) (t : Fin cfg0.N) : (dats m 0 c).after 23 t = (left m c t.val t.isLt).2.2.2.2.1 := by dsimp only [dats]
theorem after_24 (c : Dev nD) (t : Fin cfg0.N) : (dats m 0 c).after 24 t = (left m c t.val t.isLt).2.2.2.2.2.1 := by dsimp only [dats]
theorem after_25 (c : Dev nD) (t : Fin cfg0.N) : (dats m 0 c).after 25 t = (left m c t.val t.isLt).2.2.2.2.2.2.1 := by dsimp only [dats]
theorem after_26 (c : Dev nD) (t : Fin cfg0.N) : (dats m 0 c).after 26 t = (left m c t.val t.isLt).2.2.2.2.2.2.2.1 := by dsimp only [dats]
theorem after_27 (c : Dev nD) (t : Fin cfg0.N) : (dats m 0 c).after 27 t = (left m c t.val t.isLt).2.2.2.2.2.2.2.2.1 := by dsimp only [dats]
theorem after_28 (c : Dev nD) (t : Fin cfg0.N) : (dats m 0 c).after 28 t = (left m c t.val t.isLt).2.2.2.2.2.2.2.2.2.1 := by dsimp only [dats]
theorem after_29 (c : Dev nD) (t : Fin cfg0.N) : (dats m 0 c).after 29 t = (left m c t.val t.isLt).2.2.2.2.2.2.2.2.2.2.1 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d

theorem coverA_19 (c : Dev nD) (t : Fin cfg0.N) (h : t.val % 16 = 0) (y : S1x8x512x64.Idx) : ∃ p ∈ (runA m c t h).1, y ∈ p.1.set :=
  View.cover_of_tiledL (runA m c t h).1 S1x1x512x64.size (by sl_kernel_rfl) y
theorem coverA_20 (c : Dev nD) (t : Fin cfg0.N) (h : t.val % 16 = 0) (y : S1x2x512x64.Idx) : ∃ p ∈ (runA m c t h).2.1, y ∈ p.1.set :=
  View.cover_of_tiledL (runA m c t h).2.1 S1x1x512x64.size (by sl_kernel_rfl) y
theorem coverA_21 (c : Dev nD) (t : Fin cfg0.N) (h : t.val % 16 = 0) (y : S1x2x512x64.Idx) : ∃ p ∈ (runA m c t h).2.2.1, y ∈ p.1.set :=
  View.cover_of_tiledL (runA m c t h).2.2.1 S1x1x512x64.size (by sl_kernel_rfl) y
theorem coverA_22 (c : Dev nD) (t : Fin cfg0.N) (h : t.val % 16 = 0) (y : S1x2x512x256.Idx) : ∃ p ∈ (runA m c t h).2.2.2.1, y ∈ p.1.set :=
  View.cover_of_tiledBy (runA m c t h).2.2.2.1 ![1, 1, 512, 64] (by sl_kernel_rfl) y
theorem coverA_23 (c : Dev nD) (t : Fin cfg0.N) (h : t.val % 16 = 0) (y : S1x2x512x128.Idx) : ∃ p ∈ (runA m c t h).2.2.2.2.1, y ∈ p.1.set :=
  View.cover_of_tiledL (runA m c t h).2.2.2.2.1 S1x1x512x64.size (by sl_kernel_rfl) y
theorem coverA_24 (c : Dev nD) (t : Fin cfg0.N) (h : t.val % 16 = 0) (y : S1x2x512x128.Idx) : ∃ p ∈ (runA m c t h).2.2.2.2.2.1, y ∈ p.1.set :=
  View.cover_of_tiledL (runA m c t h).2.2.2.2.2.1 S1x1x512x64.size (by sl_kernel_rfl) y
theorem coverA_25 (c : Dev nD) (t : Fin cfg0.N) (h : t.val % 16 = 0) (y : S1x2x512x128.Idx) : ∃ p ∈ (runA m c t h).2.2.2.2.2.2.1, y ∈ p.1.set :=
  View.cover_of_tiledL (runA m c t h).2.2.2.2.2.2.1 S1x1x512x64.size (by sl_kernel_rfl) y
theorem coverA_26 (c : Dev nD) (t : Fin cfg0.N) (h : t.val % 16 = 0) (y : S1x2x512x128.Idx) : ∃ p ∈ (runA m c t h).2.2.2.2.2.2.2.1, y ∈ p.1.set :=
  View.cover_of_tiledL (runA m c t h).2.2.2.2.2.2.2.1 S1x1x512x128.size (by sl_kernel_rfl) y
theorem coverA_27 (c : Dev nD) (t : Fin cfg0.N) (h : t.val % 16 = 0) (y : S512x512.Idx) : ∃ p ∈ (runA m c t h).2.2.2.2.2.2.2.2.1, y ∈ p.1.set :=
  View.cover_of_tiledL (runA m c t h).2.2.2.2.2.2.2.2.1 S64x512.size (by sl_kernel_rfl) y
theorem coverA_28 (c : Dev nD) (t : Fin cfg0.N) (h : t.val % 16 = 0) (y : S512x512.Idx) : ∃ p ∈ (runA m c t h).2.2.2.2.2.2.2.2.2.1, y ∈ p.1.set :=
  View.cover_of_tiledL (runA m c t h).2.2.2.2.2.2.2.2.2.1 S512x512.size (by sl_kernel_rfl) y
theorem coverA_29 (c : Dev nD) (t : Fin cfg0.N) (h : t.val % 16 = 0) (y : S512x3072.Idx) : ∃ p ∈ (runA m c t h).2.2.2.2.2.2.2.2.2.2.1, y ∈ p.1.set :=
  View.cover_of_tiledL (runA m c t h).2.2.2.2.2.2.2.2.2.2.1 S512x1024.size (by sl_kernel_rfl) y
theorem coverA_30 (c : Dev nD) (t : Fin cfg0.N) (h : t.val % 16 = 0) (y : S544x512.Idx) : ∃ p ∈ (runA m c t h).2.2.2.2.2.2.2.2.2.2.2.1, y ∈ p.1.set :=
  View.cover_of_tiledBy (runA m c t h).2.2.2.2.2.2.2.2.2.2.2.1 ![32, 512] (by sl_kernel_rfl) y

theorem coverB_19 (c : Dev nD) (t : Fin cfg0.N) (h : ¬t.val % 16 = 0) (x : Vec F S544x512 .f32) (y : S1x8x512x64.Idx) : ∃ p ∈ (runB m c t h x).1, y ∈ p.1.set :=
  View.cover_of_tiledL (runB m c t h x).1 S1x1x512x64.size (by sl_kernel_rfl) y
theorem coverB_20 (c : Dev nD) (t : Fin cfg0.N) (h : ¬t.val % 16 = 0) (x : Vec F S544x512 .f32) (y : S1x2x512x64.Idx) : ∃ p ∈ (runB m c t h x).2.1, y ∈ p.1.set :=
  View.cover_of_tiledL (runB m c t h x).2.1 S1x1x512x64.size (by sl_kernel_rfl) y
theorem coverB_21 (c : Dev nD) (t : Fin cfg0.N) (h : ¬t.val % 16 = 0) (x : Vec F S544x512 .f32) (y : S1x2x512x64.Idx) : ∃ p ∈ (runB m c t h x).2.2.1, y ∈ p.1.set :=
  View.cover_of_tiledL (runB m c t h x).2.2.1 S1x1x512x64.size (by sl_kernel_rfl) y
theorem coverB_22 (c : Dev nD) (t : Fin cfg0.N) (h : ¬t.val % 16 = 0) (x : Vec F S544x512 .f32) (y : S1x2x512x256.Idx) : ∃ p ∈ (runB m c t h x).2.2.2.1, y ∈ p.1.set :=
  View.cover_of_tiledBy (runB m c t h x).2.2.2.1 ![1, 1, 512, 64] (by sl_kernel_rfl) y
theorem coverB_23 (c : Dev nD) (t : Fin cfg0.N) (h : ¬t.val % 16 = 0) (x : Vec F S544x512 .f32) (y : S1x2x512x128.Idx) : ∃ p ∈ (runB m c t h x).2.2.2.2.1, y ∈ p.1.set :=
  View.cover_of_tiledL (runB m c t h x).2.2.2.2.1 S1x1x512x64.size (by sl_kernel_rfl) y
theorem coverB_24 (c : Dev nD) (t : Fin cfg0.N) (h : ¬t.val % 16 = 0) (x : Vec F S544x512 .f32) (y : S1x2x512x128.Idx) : ∃ p ∈ (runB m c t h x).2.2.2.2.2.1, y ∈ p.1.set :=
  View.cover_of_tiledL (runB m c t h x).2.2.2.2.2.1 S1x1x512x64.size (by sl_kernel_rfl) y
theorem coverB_25 (c : Dev nD) (t : Fin cfg0.N) (h : ¬t.val % 16 = 0) (x : Vec F S544x512 .f32) (y : S1x2x512x128.Idx) : ∃ p ∈ (runB m c t h x).2.2.2.2.2.2.1, y ∈ p.1.set :=
  View.cover_of_tiledL (runB m c t h x).2.2.2.2.2.2.1 S1x1x512x64.size (by sl_kernel_rfl) y
theorem coverB_26 (c : Dev nD) (t : Fin cfg0.N) (h : ¬t.val % 16 = 0) (x : Vec F S544x512 .f32) (y : S1x2x512x128.Idx) : ∃ p ∈ (runB m c t h x).2.2.2.2.2.2.2.1, y ∈ p.1.set :=
  View.cover_of_tiledL (runB m c t h x).2.2.2.2.2.2.2.1 S1x1x512x128.size (by sl_kernel_rfl) y
theorem coverB_27 (c : Dev nD) (t : Fin cfg0.N) (h : ¬t.val % 16 = 0) (x : Vec F S544x512 .f32) (y : S512x512.Idx) : ∃ p ∈ (runB m c t h x).2.2.2.2.2.2.2.2.1, y ∈ p.1.set :=
  View.cover_of_tiledL (runB m c t h x).2.2.2.2.2.2.2.2.1 S64x512.size (by sl_kernel_rfl) y
theorem coverB_28 (c : Dev nD) (t : Fin cfg0.N) (h : ¬t.val % 16 = 0) (x : Vec F S544x512 .f32) (y : S512x512.Idx) : ∃ p ∈ (runB m c t h x).2.2.2.2.2.2.2.2.2.1, y ∈ p.1.set :=
  View.cover_of_tiledL (runB m c t h x).2.2.2.2.2.2.2.2.2.1 S512x512.size (by sl_kernel_rfl) y
theorem coverB_29 (c : Dev nD) (t : Fin cfg0.N) (h : ¬t.val % 16 = 0) (x : Vec F S544x512 .f32) (y : S512x3072.Idx) : ∃ p ∈ (runB m c t h x).2.2.2.2.2.2.2.2.2.2.1, y ∈ p.1.set :=
  View.cover_of_tiledL (runB m c t h x).2.2.2.2.2.2.2.2.2.2.1 S512x1024.size (by sl_kernel_rfl) y
theorem coverB_30 (c : Dev nD) (t : Fin cfg0.N) (h : ¬t.val % 16 = 0) (x : Vec F S544x512 .f32) (y : S544x512.Idx) : ∃ p ∈ (runB m c t h x).2.2.2.2.2.2.2.2.2.2.2.1, y ∈ p.1.set :=
  View.cover_of_tiledBy (runB m c t h x).2.2.2.2.2.2.2.2.2.2.2.1 ![32, 512] (by sl_kernel_rfl) y

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 25600000 in
/-- The body at a point of case A. -/
theorem soundA (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  rw [show (dats m 0 c).Φ t.succ = Carried m c (t.val + 1) t.isLt from rfl, carried_succ, carried_castSucc m c t]
  rw [left_A m c t h]
  unfold leftA; dsimp only
  iintro ⟨HC, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  ihave HC2 := (carried_open m c _ _) $$ HC
  icases HC2 with ⟨⟨HS0, HS1⟩, Hg⟩
  iapply ((runA m c t h).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%fT1, HS1⟩⟩
  isplitl [HS0 HS1 Hg]
  · isplitl [HS0 HS1]
    · isplitl [HS0]
      · unfold owns; iexists _; isplitr
        swap; · iexact HS0
        ipureintro; exact View.read_writes_of_cover _ _ _ _ _ (coverA_30 m c t h)
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (coverA_19 m c t h)
  isplitl [H20]
  · unfold owns; iexists _; isplitr
    swap; · iexact H20
    ipureintro; exact View.read_writes_of_cover _ _ _ _ _ (coverA_20 m c t h)
  isplitl [H21]
  · unfold owns; iexists _; isplitr
    swap; · iexact H21
    ipureintro; exact View.read_writes_of_cover _ _ _ _ _ (coverA_21 m c t h)
  isplitl [H22]
  · unfold owns; iexists _; isplitr
    swap; · iexact H22
    ipureintro; exact View.read_writes_of_cover _ _ _ _ _ (coverA_22 m c t h)
  isplitl [H23]
  · unfold owns; iexists _; isplitr
    swap; · iexact H23
    ipureintro; exact View.read_writes_of_cover _ _ _ _ _ (coverA_23 m c t h)
  isplitl [H24]
  · unfold owns; iexists _; isplitr
    swap; · iexact H24
    ipureintro; exact View.read_writes_of_cover _ _ _ _ _ (coverA_24 m c t h)
  isplitl [H25]
  · unfold owns; iexists _; isplitr
    swap; · iexact H25
    ipureintro; exact View.read_writes_of_cover _ _ _ _ _ (coverA_25 m c t h)
  isplitl [H26]
  · unfold owns; iexists _; isplitr
    swap; · iexact H26
    ipureintro; exact View.read_writes_of_cover _ _ _ _ _ (coverA_26 m c t h)
  isplitl [H27]
  · unfold owns; iexists _; isplitr
    swap; · iexact H27
    ipureintro; exact View.read_writes_of_cover _ _ _ _ _ (coverA_27 m c t h)
  isplitl [H28]
  · unfold owns; iexists _; isplitr
    swap; · iexact H28
    ipureintro; exact View.read_writes_of_cover _ _ _ _ _ (coverA_28 m c t h)
  unfold owns; iexists _; isplitr
  swap; · iexact H29
  ipureintro; exact View.read_writes_of_cover _ _ _ _ _ (coverA_29 m c t h)

set_option maxHeartbeats 25600000 in
/-- The body at a point of case B. -/
theorem soundB (c : Dev nD) (t : Fin cfg0.N) (h : ¬t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  rw [show (dats m 0 c).Φ t.succ = Carried m c (t.val + 1) t.isLt from rfl, carried_succ, carried_castSucc m c t, carried_pos m c _ _ (fun hz => h (by rw [hz]))]
  rw [left_B m c t h]
  unfold leftB; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((runB m c t h _).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%fT1, HS1⟩⟩
  isplitl [HS0 HS1 Hg]
  · isplitl [HS0 HS1]
    · isplitl [HS0]
      · unfold owns; iexists _; isplitr
        swap; · iexact HS0
        ipureintro; exact View.read_writes_of_cover _ _ _ _ _ (coverB_30 m c t h _)
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (coverB_19 m c t h _)
  isplitl [H20]
  · unfold owns; iexists _; isplitr
    swap; · iexact H20
    ipureintro; exact View.read_writes_of_cover _ _ _ _ _ (coverB_20 m c t h _)
  isplitl [H21]
  · unfold owns; iexists _; isplitr
    swap; · iexact H21
    ipureintro; exact View.read_writes_of_cover _ _ _ _ _ (coverB_21 m c t h _)
  isplitl [H22]
  · unfold owns; iexists _; isplitr
    swap; · iexact H22
    ipureintro; exact View.read_writes_of_cover _ _ _ _ _ (coverB_22 m c t h _)
  isplitl [H23]
  · unfold owns; iexists _; isplitr
    swap; · iexact H23
    ipureintro; exact View.read_writes_of_cover _ _ _ _ _ (coverB_23 m c t h _)
  isplitl [H24]
  · unfold owns; iexists _; isplitr
    swap; · iexact H24
    ipureintro; exact View.read_writes_of_cover _ _ _ _ _ (coverB_24 m c t h _)
  isplitl [H25]
  · unfold owns; iexists _; isplitr
    swap; · iexact H25
    ipureintro; exact View.read_writes_of_cover _ _ _ _ _ (coverB_25 m c t h _)
  isplitl [H26]
  · unfold owns; iexists _; isplitr
    swap; · iexact H26
    ipureintro; exact View.read_writes_of_cover _ _ _ _ _ (coverB_26 m c t h _)
  isplitl [H27]
  · unfold owns; iexists _; isplitr
    swap; · iexact H27
    ipureintro; exact View.read_writes_of_cover _ _ _ _ _ (coverB_27 m c t h _)
  isplitl [H28]
  · unfold owns; iexists _; isplitr
    swap; · iexact H28
    ipureintro; exact View.read_writes_of_cover _ _ _ _ _ (coverB_28 m c t h _)
  unfold owns; iexists _; isplitr
  swap; · iexact H29
  ipureintro; exact View.read_writes_of_cover _ _ _ _ _ (coverB_29 m c t h _)

theorem sound (c : Dev nD) (t : Fin cfg0.N) :
    bodyPre m c t ⊢ wp frame (wpE (defs₀ (F := F)) Variants.none c none) Set.univ (bodyAt0 t) (fun _ => bodyPost m c t) := by
  by_cases h : t.val % 16 = 0
  · exact soundA m c t h
  · exact soundB m c t h

theorem body_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [show (dats m 0 c).Φ (Fin.last cfg0.N) = Carried m c (Fin.last cfg0.N).val (Nat.le_of_lt_succ (Fin.last cfg0.N).isLt) from rfl]
  exact carried_forget m c _ _

set_option backward.isDefEq.respectTransparency.types false in
/-- The launch: every array of the pipeline ends as the data say, and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_all m ρ)

/-- The frame at any float values: the program runs to the end, leaves its arguments, and every counter is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_all m ρ))

end Cert.Inproj

end
-- ==== Proof.InprojBits.lean ====
module

public import proofs.«01_k».proof.Proof.Gen.Kernel4
public import proofs.«01_k».proof.Proof.InprojFrame
public import Idealize.ShloMosaic.PureOps.BitExact

@[expose] public section

set_option maxRecDepth 16384

noncomputable section

open Idealize.ShloMosaic Idealize.ShloMosaic.TcCoe Idealize.SL.Sem

namespace Cert.Inproj

/-! The printed program and its ideal reading have the same text: the run at the bits is the run of `InprojFrame` at the bits. -/

set_option maxHeartbeats 4000000 in
theorem body_eq : @Cert.Kernel4.cc0_inproj Bits _ _ = @Cert.Kernel4Ideal.cc0_inproj Bits _ _ := rfl

set_option maxHeartbeats 4000000 in
theorem bodies_eq : Cert.Kernel4.defs₀ (F := Bits) = Cert.Kernel4Ideal.defs₀ (F := Bits) := by
  unfold Cert.Kernel4.defs₀ Cert.Kernel4Ideal.defs₀
  refine congrArg Defs.onTc (funext fun a => funext fun b => ?_)
  match a, b with
  | 0, (t, s) =>
    dsimp only
    rw [body_eq]
    rfl
  | ⟨_ + 1, h⟩, _ => exact absurd h (Nat.not_lt.2 (Nat.le_add_left _ _))

set_option maxHeartbeats 4000000 in
theorem defs_eq : Cert.Kernel4.defs (F := Bits) = Cert.Kernel4Ideal.defs (F := Bits) :=
  congrArg (Pipeline.defs Cert.Kernel4Ideal.pcfgs) bodies_eq

set_option maxHeartbeats 4000000 in
theorem main_eq : Cert.Kernel4.main (F := Bits) = Cert.Kernel4Ideal.main (F := Bits) := rfl

set_option maxHeartbeats 4000000 in
/-- The printed program runs to the end, leaves its arguments, and every counter is at zero. -/
theorem frame_bits (m : (ℓ : Loc Cert.Kernel4.nD Cert.Kernel4.τ Cert.Kernel4.sig) → Buf (Elt Bits) ℓ) (ρ : Dev Cert.Kernel4.nD → PrngReg) :
    θ_run (Cert.Kernel4.defs (F := Bits)) (onTc (τ := Cert.Kernel4.τ) (Cert.Kernel4.main (F := Bits))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0) := by
  rw [defs_eq, main_eq]
  exact frame_any (F := Bits) m ρ

end Cert.Inproj

end
-- ==== Proof.InprojReference.lean ====
module

public import proofs.«01_k».proof.Proof.Gen.Reference4Ideal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open scoped BigOperators

namespace Cert.Inproj

/-- One entry of a normalised row, over the row and the gain. -/
def hnEntry (x g : Fin 1024 → EReal) (k : Fin 1024) : EReal :=
  x k * Ideal.rsqrt (Ideal.div (∑ j, x j * x j) (Ideal.ofBits .f32 0x44800000#32) + Ideal.ofBits .f32 0x358637BD#32) * g k

/-- One entry of a head of 64 lanes, normalised, over the head and the gain. -/
def head64 (t : Fin 64 → EReal) (g : EReal) (d : Fin 64) : EReal :=
  t d * Ideal.rsqrt (Ideal.div (∑ j, t j * t j) (Ideal.ofBits .f32 0x42800000#32) + Ideal.ofBits .f32 0x358637BD#32) * g

/-- One entry of a head of 128 lanes, normalised, over the head and the gain. -/
def head128 (t : Fin 128 → EReal) (g : EReal) (d : Fin 128) : EReal :=
  t d * Ideal.rsqrt (Ideal.div (∑ j, t j * t j) (Ideal.ofBits .f32 0x43000000#32) + Ideal.ofBits .f32 0x358637BD#32) * g

/-- The logistic function. -/
def sigma (x : EReal) : EReal := Ideal.div (Ideal.ofBits .f32 0x3F800000#32) (Ideal.ofBits .f32 0x3F800000#32 + Ideal.exp (-x))

end Cert.Inproj

namespace Cert.Inproj.Reference

open Cert.Reference4Ideal Cert.Reference4Ideal.Gen Cert.Inproj

/-- The normalised rows of the input projection's reference. -/
def HN (a0 : FVec Ideal S8x8192x1024 .f32) (a1 : FVec Ideal S1024 .f32) : FVec Ideal S8x8192x1024 .f32 :=
  (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 a1)))

/-- The projection of the normalised rows. -/
def PJ (a0 : FVec Ideal S8x8192x1024 .f32) (a1 : FVec Ideal S1024 .f32) (a2 : FVec Ideal S1024x5912 .f32) : FVec Ideal S8x8192x5912 .f32 :=
  Host.dotGeneral dot_S8x8192x1024_S1024x5912_S8x8192x5912_2_0_01_1_n_n none (HN a0 a1) a2

/-- The queries by head, before their norm. -/
def QH (p : FVec Ideal S8x8192x5912 .f32) : FVec Ideal S8x8x8192x64 .f32 :=
  transpose S8x8x8192x64 [0, 2, 1, 3] (shapeCast _ (extractStridedSlice S8x8192x512 ![0, 0, 0] p slices_S8x8192x5912_S8x8192x512_0_0_0) shapeCasts_S8x8192x512_S8x8192x8x64) transposes_S8x8192x8x64_S8x8x8192x64_0_2_1_3

/-- The queries. -/
def Q (x : FVec Ideal S8x8x8192x64 .f32) (a3 : FVec Ideal S4x64 .f32) : FVec Ideal S8x8x8192x64 .bf16 :=
  truncf .bf16 (mulf (mulf x (broadcastInDim S8x8x8192x64 ![0, 1, 2, 3] bcast_S8x8x8192x1_S8x8x8192x64_0_1_2_3 (Host.rsqrt (addf (Host.divf (broadcastInDim S8x8x8192x1 ![0, 1, 2] bcast_S8x8x8192_S8x8x8192x1_0_1_2 (Host.reduceAdd (mulf x x) (constant S_ .f32 0x00000000#32) reducesTo_S8x8x8192x64_S8x8x8192_d3 h_S_)) (broadcastInDim S8x8x8192x1 ![] bcast_S_S8x8x8192x1 (constant S_ .f32 0x42800000#32))) (broadcastInDim S8x8x8192x1 ![] bcast_S_S8x8x8192x1 (constant S_ .f32 0x358637BD#32)))))) (broadcastInDim S8x8x8192x64 ![0, 1, 2, 3] bcast_S1x1x1x64_S8x8x8192x64_0_1_2_3 (broadcastInDim S1x1x1x64 ![3] bcast_S64_S1x1x1x64_3 (shapeCast _ (extractStridedSlice S1x64 ![0, 0] a3 slices_S4x64_S1x64_0_0) shapeCasts_S1x64_S64)))) bitsLt_bf16_f32

/-- The part of the projection that holds the keys and values. -/
def KV (p : FVec Ideal S8x8192x5912 .f32) : FVec Ideal S8x8192x768 .f32 :=
  extractStridedSlice S8x8192x768 ![0, 0, 512] p slices_S8x8192x5912_S8x8192x768_0_0_512

/-- A part of 128 columns by key head. -/
def KH (p : FVec Ideal S8x8192x128 .f32) : FVec Ideal S8x2x8192x64 .f32 :=
  transpose S8x2x8192x64 [0, 2, 1, 3] (shapeCast _ p shapeCasts_S8x8192x128_S8x8192x2x64) transposes_S8x8192x2x64_S8x2x8192x64_0_2_1_3

/-- A part's heads, normalised by a gain. -/
def KN (x : FVec Ideal S8x2x8192x64 .f32) (g : FVec Ideal S1x64 .f32) : FVec Ideal S8x2x8192x64 .f32 :=
  mulf (mulf x (broadcastInDim S8x2x8192x64 ![0, 1, 2, 3] bcast_S8x2x8192x1_S8x2x8192x64_0_1_2_3 (Host.rsqrt (addf (Host.divf (broadcastInDim S8x2x8192x1 ![0, 1, 2] bcast_S8x2x8192_S8x2x8192x1_0_1_2 (Host.reduceAdd (mulf x x) (constant S_ .f32 0x00000000#32) reducesTo_S8x2x8192x64_S8x2x8192_d3 h_S_)) (broadcastInDim S8x2x8192x1 ![] bcast_S_S8x2x8192x1 (constant S_ .f32 0x42800000#32))) (broadcastInDim S8x2x8192x1 ![] bcast_S_S8x2x8192x1 (constant S_ .f32 0x358637BD#32)))))) (broadcastInDim S8x2x8192x64 ![0, 1, 2, 3] bcast_S1x1x1x64_S8x2x8192x64_0_1_2_3 (broadcastInDim S1x1x1x64 ![3] bcast_S64_S1x1x1x64_3 (shapeCast _ g shapeCasts_S1x64_S64)))

/-- The six parts of the keys and values. -/
def kv0 (q : FVec Ideal S8x8192x768 .f32) : FVec Ideal S8x8192x128 .f32 := extractStridedSlice S8x8192x128 ![0, 0, 0] q slices_S8x8192x768_S8x8192x128_0_0_0
def kv1 (q : FVec Ideal S8x8192x768 .f32) : FVec Ideal S8x8192x128 .f32 := extractStridedSlice S8x8192x128 ![0, 0, 128] q slices_S8x8192x768_S8x8192x128_0_0_128
def kv2 (q : FVec Ideal S8x8192x768 .f32) : FVec Ideal S8x8192x128 .f32 := extractStridedSlice S8x8192x128 ![0, 0, 256] q slices_S8x8192x768_S8x8192x128_0_0_256
def kv3 (q : FVec Ideal S8x8192x768 .f32) : FVec Ideal S8x8192x128 .f32 := extractStridedSlice S8x8192x128 ![0, 0, 384] q slices_S8x8192x768_S8x8192x128_0_0_384
def kv4 (q : FVec Ideal S8x8192x768 .f32) : FVec Ideal S8x8192x128 .f32 := extractStridedSlice S8x8192x128 ![0, 0, 512] q slices_S8x8192x768_S8x8192x128_0_0_512
def kv5 (q : FVec Ideal S8x8192x768 .f32) : FVec Ideal S8x8192x128 .f32 := extractStridedSlice S8x8192x128 ![0, 0, 640] q slices_S8x8192x768_S8x8192x128_0_0_640

/-- The zero lanes beside a head. -/
def Z : FVec Ideal S8x2x8192x64 .f32 :=
  broadcastInDim S8x2x8192x64 ![3] bcast_S64_S8x2x8192x64_3 (broadcastInDim S64 ![] bcast_S_S64 (constant S_ .f32 0x00000000#32))

/-- The lanes beside a head that hold a one in lane `n`. -/
def ONE (n : BitVec 32) : FVec Ideal S8x2x8192x64 .f32 :=
  broadcastInDim S8x2x8192x64 ![3] bcast_S64_S8x2x8192x64_3 (uitofp .f32 (cmpi .eq (iotaInDim S64 32 0) (broadcastInDim S64 ![] bcast_S_S64 (constantI S_ 32 n))))

/-- The indicator of a row's block. -/
def BLK : FVec Ideal S8x2x8192x128 .f32 :=
  broadcastInDim S8x2x8192x128 ![2, 3] bcast_S8192x128_S8x2x8192x128_2_3 (shapeCast _ (broadcastInDim S128x64x128 ![0, 2] bcast_S128x128_S128x64x128_0_2 (uitofp .f32 (cmpi .eq (addi (iotaInDim S128x128 32 0) (broadcastInDim S128x128 ![] bcast_S_S128x128 (constantI S_ 32 0#32))) (iotaInDim S128x128 32 1)))) shapeCasts_S128x64x128_S8192x128)

/-- A head with two lane groups beside it. -/
def KS (x y : FVec Ideal S8x2x8192x64 .f32) (z : FVec Ideal S8x2x8192x128 .f32) : FVec Ideal S8x2x8192x256 .bf16 :=
  truncf .bf16 (concatenate S8x2x8192x256 3 [⟨S8x2x8192x64, x⟩, ⟨S8x2x8192x64, y⟩, ⟨S8x2x8192x128, z⟩] concatenates_S8x2x8192x64_S8x2x8192x64_S8x2x8192x128_S8x2x8192x256_d3) bitsLt_bf16_f32

/-- A head with a lane group beside it. -/
def VS (x y : FVec Ideal S8x2x8192x64 .f32) : FVec Ideal S8x2x8192x128 .bf16 :=
  truncf .bf16 (concatenate S8x2x8192x128 3 [⟨S8x2x8192x64, x⟩, ⟨S8x2x8192x64, y⟩] concatenates_S8x2x8192x64_S8x2x8192x64_S8x2x8192x128_d3) bitsLt_bf16_f32

/-- The attention gates by key head. -/
def GT (p : FVec Ideal S8x8192x5912 .f32) : FVec Ideal S8x2x8192x12 .f32 :=
  transpose S8x2x8192x12 [0, 2, 1, 3] (shapeCast _ (Host.divf (broadcastInDim S8x8192x24 ![] bcast_S_S8x8192x24 (constant S_ .f32 0x3F800000#32)) (addf (broadcastInDim S8x8192x24 ![] bcast_S_S8x8192x24 (constant S_ .f32 0x3F800000#32)) (Host.exp (Host.negf (extractStridedSlice S8x8192x24 ![0, 0, 1280] p slices_S8x8192x5912_S8x8192x24_0_0_1280))))) shapeCasts_S8x8192x24_S8x8192x2x12) transposes_S8x8192x2x12_S8x2x8192x12_0_2_1_3

/-- The attention gates with the lanes beside them. -/
def GN (x : FVec Ideal S8x2x8192x12 .f32) : FVec Ideal S8x2x8192x128 .bf16 :=
  truncf .bf16 (concatenate S8x2x8192x128 3 [⟨S8x2x8192x12, x⟩, ⟨S8x2x8192x116, (id (broadcastInDim S8x2x8192x116 ![3] bcast_S116_S8x2x8192x116_3 (broadcastInDim S116 ![] bcast_S_S116 (constant S_ .f32 0x3F000000#32))))⟩] concatenates_S8x2x8192x12_S8x2x8192x116_S8x2x8192x128_d3) bitsLt_bf16_f32

/-- The memory queries by head, before their norm. -/
def MH (p : FVec Ideal S8x8192x5912 .f32) : FVec Ideal S8x8192x4x128 .f32 :=
  shapeCast _ (extractStridedSlice S8x8192x512 ![0, 0, 2328] p slices_S8x8192x5912_S8x8192x512_0_0_2328) shapeCasts_S8x8192x512_S8x8192x4x128

/-- The memory queries. -/
def QM (x : FVec Ideal S8x8192x4x128 .f32) (a4 : FVec Ideal S2x128 .f32) : FVec Ideal S65536x512 .bf16 :=
  truncf .bf16 (shapeCast _ (mulf (mulf x (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf x x) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 (shapeCast _ (extractStridedSlice S1x128 ![0, 0] a4 slices_S2x128_S1x128_0_0) shapeCasts_S1x128_S128)))) shapeCasts_S8x8192x4x128_S65536x512) bitsLt_bf16_f32

/-- The merge's gates. -/
def GM (p : FVec Ideal S8x8192x5912 .f32) : FVec Ideal S65536x3072 .bf16 :=
  truncf .bf16 (shapeCast _ (Host.divf (broadcastInDim S8x8192x3072 ![] bcast_S_S8x8192x3072 (constant S_ .f32 0x3F800000#32)) (addf (broadcastInDim S8x8192x3072 ![] bcast_S_S8x8192x3072 (constant S_ .f32 0x3F800000#32)) (Host.exp (Host.negf (extractStridedSlice S8x8192x3072 ![0, 0, 2840] p slices_S8x8192x5912_S8x8192x3072_0_0_2840))))) shapeCasts_S8x8192x3072_S65536x3072) bitsLt_bf16_f32

theorem hn_ref (a0 : FVec Ideal S8x8192x1024 .f32) (a1 : FVec Ideal S1024 .f32) (b : Fin 8) (s : Fin 8192) (k : Fin 1024) :
    HN a0 a1 (ix3 b s k) = hnEntry (fun j => a0 (ix3 b s j)) (fun j => a1 (ix1 j)) k := by
  pointwise [HN, hnEntry]

theorem pj_ref (a0 : FVec Ideal S8x8192x1024 .f32) (a1 : FVec Ideal S1024 .f32) (a2 : FVec Ideal S1024x5912 .f32) (b : Fin 8) (s : Fin 8192) (l : Fin 5912) :
    PJ a0 a1 a2 (ix3 b s l) = ∑ k, hnEntry (fun j => a0 (ix3 b s j)) (fun j => a1 (ix1 j)) k * a2 (ix2 k l) := by
  pointwise [PJ]
  simp only [hn_ref]

theorem qh_ref (p : FVec Ideal S8x8192x5912 .f32) (b h : Fin 8) (s : Fin 8192) (d : Fin 64) :
    QH p (ix4 b h s d) = p (ix3 b s ⟨h.val * 64 + d.val, by omega⟩) := by
  pointwise [QH]

theorem q_ref (x : FVec Ideal S8x8x8192x64 .f32) (a3 : FVec Ideal S4x64 .f32) (b h : Fin 8) (s : Fin 8192) (d : Fin 64) :
    Q x a3 (ix4 b h s d) = head64 (fun j => x (ix4 b h s j)) (a3 (ix2 0 d)) d := by
  pointwise [Q, head64]

theorem kh_ref (p : FVec Ideal S8x8192x128 .f32) (b : Fin 8) (h : Fin 2) (s : Fin 8192) (d : Fin 64) :
    KH p (ix4 b h s d) = p (ix3 b s ⟨h.val * 64 + d.val, by omega⟩) := by
  pointwise [KH]

theorem kn_ref (x : FVec Ideal S8x2x8192x64 .f32) (g : FVec Ideal S1x64 .f32) (b : Fin 8) (h : Fin 2) (s : Fin 8192) (d : Fin 64) :
    KN x g (ix4 b h s d) = head64 (fun j => x (ix4 b h s j)) (g (ix2 0 d)) d := by
  pointwise [KN, head64]

theorem mh_ref (p : FVec Ideal S8x8192x5912 .f32) (b : Fin 8) (s : Fin 8192) (h : Fin 4) (d : Fin 128) :
    MH p (ix4 b s h d) = p (ix3 b s ⟨2328 + (h.val * 128 + d.val), by omega⟩) := by
  pointwise [MH]

theorem qm_ref (x : FVec Ideal S8x8192x4x128 .f32) (a4 : FVec Ideal S2x128 .f32) (r : Fin 65536) (l : Fin 512) :
    QM x a4 (ix2 r l) = head128 (fun j => x (ix4 ⟨r.val / 8192, by omega⟩ ⟨r.val % 8192, by omega⟩ ⟨l.val / 128, by omega⟩ j)) (a4 (ix2 0 ⟨l.val % 128, by omega⟩)) ⟨l.val % 128, by omega⟩ := by
  pointwise [QM, head128]

theorem gm_ref (p : FVec Ideal S8x8192x5912 .f32) (r : Fin 65536) (l : Fin 3072) :
    GM p (ix2 r l) = sigma (p (ix3 ⟨r.val / 8192, by omega⟩ ⟨r.val % 8192, by omega⟩ ⟨2840 + l.val, by omega⟩)) := by
  pointwise [GM, sigma]

theorem bit_eq {n : ℕ} (a b : BitVec n) :
    FloatOps.uitofp (F := Ideal) .f32 (IntOp.cmpi .eq a b) = (if a = b then 1 else 0 : EReal) := by
  by_cases h : a = b
  · subst h
    simp [IntOp.cmpi, FloatOps.uitofp]
  · simp [IntOp.cmpi, FloatOps.uitofp, h]

theorem z_ref (b : Fin 8) (h : Fin 2) (s : Fin 8192) (d : Fin 64) : Z (ix4 b h s d) = Ideal.ofBits .f32 0x00000000#32 := by
  pointwise [Z]

theorem one_ref (n : BitVec 32) (b : Fin 8) (h : Fin 2) (s : Fin 8192) (d : Fin 64) :
    ONE n (ix4 b h s d) = if BitVec.ofNat 32 d.val = n then 1 else 0 := by
  pointwise [ONE]
  exact bit_eq _ _

theorem blk_ref (b : Fin 8) (h : Fin 2) (s : Fin 8192) (d : Fin 128) :
    BLK (ix4 b h s d) = if s.val / 64 = d.val then 1 else 0 := by
  pointwise [BLK]
  refine (bit_eq _ _).trans ?_
  have h : (IntOp.addi (BitVec.ofNat 32 (s.val / 64)) 0#32 = BitVec.ofNat 32 d.val) ↔ s.val / 64 = d.val := by
    rw [← BitVec.toNat_inj]
    simp only [IntOp.addi, BitVec.toNat_add, BitVec.toNat_ofNat]
    omega
  simp only [h]

theorem gt_ref (p : FVec Ideal S8x8192x5912 .f32) (b : Fin 8) (h : Fin 2) (s : Fin 8192) (d : Fin 12) :
    GT p (ix4 b h s d) = sigma (p (ix3 b s ⟨1280 + (h.val * 12 + d.val), by omega⟩)) := by
  pointwise [GT, sigma]

theorem ks_ref (x y : FVec Ideal S8x2x8192x64 .f32) (z : FVec Ideal S8x2x8192x128 .f32) (b : Fin 8) (h : Fin 2) (s : Fin 8192) (d : Fin 256) :
    KS x y z (ix4 b h s d) = if h0 : d.val < 64 then x (ix4 b h s ⟨d.val, h0⟩) else if h1 : d.val < 128 then y (ix4 b h s ⟨d.val - 64, by omega⟩) else z (ix4 b h s ⟨d.val - 128, by omega⟩) := by
  pointwise [KS]
  by_cases h0 : d.val < 64
  · simp only [h0, dite_true]
  · by_cases h1 : d.val < 128
    · simp only [h0, h1, (by omega : d.val - 64 < 64), dite_true, dite_false]
    · simp only [h0, h1, dite_false]
      rw [dif_neg (by omega)]
      exact congrArg (fun k => z (ix4 b h s k)) (Fin.ext (by dsimp only; omega))

theorem vs_ref (x y : FVec Ideal S8x2x8192x64 .f32) (b : Fin 8) (h : Fin 2) (s : Fin 8192) (d : Fin 128) :
    VS x y (ix4 b h s d) = if h0 : d.val < 64 then x (ix4 b h s ⟨d.val, h0⟩) else y (ix4 b h s ⟨d.val - 64, by omega⟩) := by
  pointwise [VS]

theorem gn_ref (x : FVec Ideal S8x2x8192x12 .f32) (b : Fin 8) (h : Fin 2) (s : Fin 8192) (d : Fin 128) :
    GN x (ix4 b h s d) = if h0 : d.val < 12 then x (ix4 b h s ⟨d.val, h0⟩) else Ideal.ofBits .f32 0x3F000000#32 := by
  pointwise [GN]
  by_cases h0 : d.val < 12
  · simp only [h0, dite_true]
  · simp only [h0, dite_false, id]
    pointwise

end Cert.Inproj.Reference

end
-- ==== Proof.InprojPayload.lean ====
module

public import proofs.«01_k».proof.Proof.Gen.Kernel4Ideal.Skeleton
public import proofs.«01_k».proof.Proof.InprojReference

@[expose] public section

set_option maxRecDepth 16384

noncomputable section

open Idealize.ShloMosaic Idealize.ShloMosaic.TcCoe Idealize.SL.Sem
open scoped BigOperators

namespace Cert.Inproj

open Cert.Kernel4Ideal Cert.Kernel4Ideal.Gen

/-- One entry of the kernel's head norm, over the row, the column of the averaging matrix and the gain. -/
def kn {n : ℕ} (t : Fin n → EReal) (bd : Fin n → EReal) (g : EReal) (c : Fin n) : EReal :=
  t c * Ideal.rsqrt ((∑ j, t j * t j * bd j) + Ideal.ofBits .f32 0x358637BD#32) * g

theorem xn_pay (x : Vec Ideal S512x1024 .f32) (g : Vec Ideal S1x1024 .f32) (r : Fin 512) (k : Fin 1024) :
    k0_pay4 x g (ix2 r k) = hnEntry (fun j => x (ix2 r j)) (fun j => g (ix2 0 j)) k := by
  pointwise [k0_pay4, hnEntry]

theorem q_pay (xn : FVec Ideal S512x1024 .bf16) (w : Vec Ideal S1024x512 .bf16) (bd : Vec Ideal S512x512 .bf16) (g : Vec Ideal S1x512 .f32) (r c : Fin 512) :
    k0_pay15 xn w bd g (ix2 r c) = kn (fun j => ∑ k, xn (ix2 r k) * w (ix2 k j)) (fun j => bd (ix2 j c)) (g (ix2 0 c)) c := by
  pointwise [k0_pay15, kn]

theorem qm_pay (xn : FVec Ideal S512x1024 .bf16) (w : Vec Ideal S1024x512 .bf16) (bd : Vec Ideal S512x512 .bf16) (g : Vec Ideal S1x512 .f32) (r c : Fin 512) :
    k0_pay79 xn w bd g (ix2 r c) = kn (fun j => ∑ k, xn (ix2 r k) * w (ix2 k j)) (fun j => bd (ix2 j c)) (g (ix2 0 c)) c := by
  pointwise [k0_pay79, kn]

theorem kv_pay (xn : FVec Ideal S512x1024 .bf16) (w : Vec Ideal S1024x768 .bf16) (r : Fin 512) (c : Fin 768) :
    k0_pay26 xn w (ix2 r c) = ∑ k, xn (ix2 r k) * w (ix2 k c) := by
  pointwise [k0_pay26]

theorem ks_pay (xn : FVec Ideal S512x1024 .bf16) (w : Vec Ideal S1024x768 .bf16) (bd : Vec Ideal S128x128 .bf16) (g : Vec Ideal S1x128 .f32) (r : Fin 512) (c : Fin 128) :
    k0_pay29 xn w bd g (ix2 r c) = kn (fun j => ∑ k, xn (ix2 r k) * w (ix2 k ⟨256 + j.val, by omega⟩)) (fun j => bd (ix2 j c)) (g (ix2 0 c)) c := by
  pointwise [k0_pay29, kn]
  simp only [kv_pay]

theorem kw_pay (xn : FVec Ideal S512x1024 .bf16) (w : Vec Ideal S1024x768 .bf16) (bd : Vec Ideal S128x128 .bf16) (g : Vec Ideal S1x128 .f32) (r : Fin 512) (c : Fin 128) :
    k0_pay31 xn w bd g (ix2 r c) = kn (fun j => ∑ k, xn (ix2 r k) * w (ix2 k ⟨512 + j.val, by omega⟩)) (fun j => bd (ix2 j c)) (g (ix2 0 c)) c := by
  pointwise [k0_pay31, kn]
  simp only [kv_pay]

theorem gate_pay (xn : FVec Ideal S512x1024 .bf16) (w : Vec Ideal S1024x256 .bf16) (r : Fin 512) (c : Fin 256) :
    k0_pay33 xn w (ix2 r c) = sigma (∑ k, xn (ix2 r k) * w (ix2 k c)) := by
  pointwise [k0_pay33, sigma]
  simp only [zero_sub]

theorem gm0_pay (xn : FVec Ideal S512x1024 .bf16) (w : Vec Ideal S1024x1024 .bf16) (r : Fin 512) (c : Fin 1024) :
    k0_pay96 xn w (ix2 r c) = sigma (∑ k, xn (ix2 r k) * w (ix2 k c)) := by
  pointwise [k0_pay96, sigma]
  simp only [zero_sub]

theorem gm1_pay (xn : FVec Ideal S512x1024 .bf16) (w : Vec Ideal S1024x1024 .bf16) (r : Fin 512) (c : Fin 1024) :
    k0_pay123 xn w (ix2 r c) = sigma (∑ k, xn (ix2 r k) * w (ix2 k c)) := by
  pointwise [k0_pay123, sigma]
  simp only [zero_sub]

theorem gm2_pay (xn : FVec Ideal S512x1024 .bf16) (w : Vec Ideal S1024x1024 .bf16) (r : Fin 512) (c : Fin 1024) :
    k0_pay137 xn w (ix2 r c) = sigma (∑ k, xn (ix2 r k) * w (ix2 k c)) := by
  pointwise [k0_pay137, sigma]
  simp only [zero_sub]

theorem bit_sel {n : ℕ} (a b : BitVec n) :
    Scalar.select (IntOp.cmpi .eq a b) (1 : EReal) 0 = if a = b then 1 else 0 := by
  by_cases h : a = b
  · subst h
    simp [IntOp.cmpi, Scalar.select]
  · have h' : (a == b) = false := by simpa using h
    simp [IntOp.cmpi, Scalar.select, h, h']

/-- The row a tile's lane carries, as a word. -/
theorem row_pay (n : ℕ) (hn : n < 128) (r : Fin 512) (c : Fin 128) :
    k0_pay34 (BitVec.ofNat 32 n) (ix2 r c) = BitVec.ofNat 32 (n % 16 * 512 + r.val) := by
  pointwise [k0_pay34]
  refine (congrArg (fun w => IntOp.addi w (BitVec.ofNat 32 r.val)) (?_ : _ = BitVec.ofNat 32 (n % 16 * 512))).trans ?_
  · clear r c
    revert n
    decide +kernel
  · simp only [IntOp.addi, BitVec.ofNat_add]

/-- The kernel's floor division of a row by the block length. -/
def blockOf (v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32)
    (IntOp.divsi .vector v 64#32)

theorem block_word_fin : ∀ a : Fin 128, ∀ b : Fin 64, blockOf (BitVec.ofNat 32 (64 * a.val + b.val)) = BitVec.ofNat 32 a.val := by
  decide +kernel

theorem block_word (m : ℕ) (hm : m < 8192) : blockOf (BitVec.ofNat 32 m) = BitVec.ofNat 32 (m / 64) := by
  have h := block_word_fin ⟨m / 64, by omega⟩ ⟨m % 64, by omega⟩
  simpa only [Nat.div_add_mod] using h

theorem onehot_pay (n : ℕ) (hn : n < 128) (r : Fin 512) (c : Fin 128) :
    k0_pay38 (F := Ideal) (k0_pay34 (BitVec.ofNat 32 n)) (k0_pay35 (BitVec.ofNat 32 n)) (k0_pay36 (BitVec.ofNat 32 n)) k0_pay37 (ix2 r c)
      = if (n % 16 * 512 + r.val) / 64 = c.val then 1 else 0 := by
  pointwise [k0_pay38, k0_pay35, k0_pay36, k0_pay37]
  simp only [row_pay n hn]
  obtain ⟨m, hm, e⟩ : ∃ m, m < 8192 ∧ n % 16 * 512 + r.val = m := ⟨_, by omega, rfl⟩
  rw [e]
  have h : (BitVec.ofNat 32 (m / 64) = BitVec.ofNat 32 c.val) ↔ m / 64 = c.val := by
    rw [← BitVec.toNat_inj]
    simp only [BitVec.toNat_ofNat]
    omega
  have w := block_word m hm
  unfold blockOf at w
  simp only [w, bit_sel, h]

theorem ones_sel_pay (r : Fin 512) (c : Fin 64) :
    k0_pay40 (F := Ideal) (ix2 r c) = if BitVec.ofNat 32 c.val = 0#32 then 1 else 0 := by
  pointwise [k0_pay40]
  exact bit_sel _ _

theorem ones_win_pay (r : Fin 512) (c : Fin 64) :
    k0_pay41 (F := Ideal) (ix2 r c) = if BitVec.ofNat 32 c.val = 1#32 then 1 else 0 := by
  pointwise [k0_pay41]
  exact bit_sel _ _

end Cert.Inproj

end
-- ==== Proof.InprojHeads.lean ====
module

public import proofs.«01_k».proof.Proof.InprojPayload

@[expose] public section

set_option maxRecDepth 16384

noncomputable section

open Idealize.ShloMosaic Idealize.ShloMosaic.TcCoe Idealize.SL.Sem
open scoped BigOperators

namespace Cert.Inproj

/-- A sum over the positions of `H` heads of `D` lanes, only one head's terms kept, is the sum over that head. -/
theorem sum_head {H D N : ℕ} (hN : N = H * D) (h : ℕ) (hh : h < H) (f : Fin N → EReal) :
    (∑ j : Fin N, if j.val / D = h then f j else 0) = ∑ d : Fin D, f ⟨h * D + d.val, by
      subst hN
      calc h * D + d.val < h * D + D := by omega
        _ = (h + 1) * D := by ring
        _ ≤ H * D := Nat.mul_le_mul_right D hh⟩ := by
  subst hN
  rw [← (finProdFinEquiv (m := H) (n := D)).sum_comp, Fintype.sum_prod_type, Finset.sum_eq_single (⟨h, hh⟩ : Fin H)]
  · refine Finset.sum_congr rfl fun d _ => ?_
    have hD : 0 < D := lt_of_le_of_lt (Nat.zero_le _) d.isLt
    have e : (finProdFinEquiv ((⟨h, hh⟩ : Fin H), d)).val = h * D + d.val := by
      simp only [finProdFinEquiv_apply_val]
      ring
    rw [if_pos (by rw [e, mul_comm, Nat.mul_add_div hD, Nat.div_eq_of_lt d.isLt, Nat.add_zero])]
    exact congrArg f (Fin.ext e)
  · intro a _ ha
    refine Finset.sum_eq_zero fun d _ => if_neg fun e => ha (Fin.ext ?_)
    have hD : 0 < D := lt_of_le_of_lt (Nat.zero_le _) d.isLt
    rw [finProdFinEquiv_apply_val, Nat.add_mul_div_left _ _ hD, Nat.div_eq_of_lt d.isLt, Nat.zero_add] at e
    exact e
  · intro h'
    exact absurd (Finset.mem_univ _) h'

/-- A nonnegative finite factor comes out of a finite sum of extended reals. -/
theorem sum_mul_right {ι : Type*} (s : Finset ι) (f : ι → EReal) (w : EReal) (h0 : 0 ≤ w) (h1 : w ≠ ⊤) :
    ∑ i ∈ s, f i * w = (∑ i ∈ s, f i) * w := by
  classical
  induction s using Finset.induction_on with
  | empty => simp
  | insert a s ha ih => rw [Finset.sum_insert ha, Finset.sum_insert ha, ih, EReal.right_distrib_of_nonneg_of_ne_top h0 h1]

theorem div_pos (x : EReal) (r : ℝ) (hr : 0 < r) : Ideal.div x (r : EReal) = x * ((r⁻¹ : ℝ) : EReal) := by
  unfold Ideal.div
  rw [if_neg (by exact_mod_cast hr.ne'), EReal.coe_inv]

/-- The kernel's head norm, its averaging matrix constant on each head's block, averages over the head. -/
theorem kn_head {H D N : ℕ} (hN : N = H * D) (r : ℝ) (hr : 0 < r) (t : Fin N → EReal) (bd : Fin N → EReal) (g : EReal) (c : Fin N)
    (hc : c.val / D < H) (hbd : ∀ j, bd j = Ideal.div (if j.val / D = c.val / D then 1 else 0) (r : EReal)) :
    kn t bd g c = t c * Ideal.rsqrt (Ideal.div (∑ d : Fin D, (fun j => t j * t j) ⟨c.val / D * D + d.val, by
      subst hN
      calc c.val / D * D + d.val < c.val / D * D + D := by omega
        _ = (c.val / D + 1) * D := by ring
        _ ≤ H * D := Nat.mul_le_mul_right D hc⟩) (r : EReal) + Ideal.ofBits .f32 0x358637BD#32) * g := by
  unfold kn
  have e : ∀ j, t j * t j * bd j = (if j.val / D = c.val / D then t j * t j else 0) * ((r⁻¹ : ℝ) : EReal) := fun j => by
    rw [hbd, div_pos _ r hr]
    by_cases h : j.val / D = c.val / D
    · rw [if_pos h, if_pos h, one_mul]
    · rw [if_neg h, if_neg h, zero_mul, mul_zero]
  rw [Finset.sum_congr rfl fun j _ => e j,
    sum_mul_right _ _ _ (by exact_mod_cast (inv_pos.2 hr).le) (EReal.coe_ne_top _), sum_head hN _ hc (fun j => t j * t j), div_pos _ r hr]

theorem ofBits_64 : Ideal.ofBits .f32 0x42800000#32 = ((64 : ℝ) : EReal) := by
  simp [Ideal.ofBits, Ideal.ieee]
  rw [← EReal.coe_mul]
  norm_num

theorem ofBits_128 : Ideal.ofBits .f32 0x43000000#32 = ((128 : ℝ) : EReal) := by
  simp [Ideal.ofBits, Ideal.ieee]
  rw [← EReal.coe_mul]
  norm_num

theorem ofBits_one : Ideal.ofBits .f32 0x3F800000#32 = 1 := by
  simp [Ideal.ofBits, Ideal.ieee]
  rw [← EReal.coe_mul, ← EReal.coe_one]
  norm_num

theorem ofBits_half : Ideal.ofBits .f32 0x3F000000#32 = ((1 / 2 : ℝ) : EReal) := by
  simp [Ideal.ofBits, Ideal.ieee]
  rw [← EReal.coe_mul]
  norm_num

theorem exp_zero : Ideal.exp 0 = 1 :=
  (show Ideal.exp 0 = ((Real.exp 0 : ℝ) : EReal) from rfl).trans (by rw [Real.exp_zero, EReal.coe_one])

theorem one_add_one : (1 : EReal) + 1 = ((2 : ℝ) : EReal) := by
  rw [show (1 : EReal) = ((1 : ℝ) : EReal) from rfl, ← EReal.coe_add]
  norm_num

/-- The logistic function at zero is one half. -/
theorem sigma_zero : sigma 0 = Ideal.ofBits .f32 0x3F000000#32 := by
  unfold sigma
  rw [ofBits_half, ofBits_one, neg_zero, exp_zero, one_add_one, div_pos _ 2 (by norm_num), one_mul]
  norm_num

/-- A head of 64 lanes out of `H`. -/
theorem kn_64 {H N : ℕ} (hN : N = H * 64) (t : Fin N → EReal) (bd : Fin N → EReal) (g : EReal) (c : Fin N)
    (hc : c.val / 64 < H) (hbd : ∀ j, bd j = Ideal.div (if j.val / 64 = c.val / 64 then 1 else 0) (Ideal.ofBits .f32 0x42800000#32)) :
    kn t bd g c = head64 (fun d => t ⟨c.val / 64 * 64 + d.val, by omega⟩) g ⟨c.val % 64, by omega⟩ := by
  simp only [ofBits_64] at hbd
  rw [kn_head hN 64 (by norm_num) t bd g c hc hbd]
  unfold head64
  simp only [ofBits_64]
  refine congrArg (fun x => x * _ * g) (congrArg t (Fin.ext ?_))
  simp only
  omega

/-- A head of 128 lanes out of `H`. -/
theorem kn_128 {H N : ℕ} (hN : N = H * 128) (t : Fin N → EReal) (bd : Fin N → EReal) (g : EReal) (c : Fin N)
    (hc : c.val / 128 < H) (hbd : ∀ j, bd j = Ideal.div (if j.val / 128 = c.val / 128 then 1 else 0) (Ideal.ofBits .f32 0x43000000#32)) :
    kn t bd g c = head128 (fun d => t ⟨c.val / 128 * 128 + d.val, by omega⟩) g ⟨c.val % 128, by omega⟩ := by
  simp only [ofBits_128] at hbd
  rw [kn_head hN 128 (by norm_num) t bd g c hc hbd]
  unfold head128
  simp only [ofBits_128]
  refine congrArg (fun x => x * _ * g) (congrArg t (Fin.ext ?_))
  simp only
  omega

end Cert.Inproj

end
-- ==== Proof.InprojOuts.lean ====
module

public import proofs.«01_k».proof.Proof.InprojFrame
public import proofs.«01_k».proof.Proof.InprojHeads
public import Idealize.ShloMosaic.Lib.Pipeline.ValueKit

@[expose] public section

set_option maxRecDepth 16384

noncomputable section

open Idealize.ShloMosaic Idealize.ShloMosaic.TcCoe Idealize.SL.Sem
open scoped BigOperators

namespace Cert.Inproj

open Cert.Kernel4Ideal Cert.Kernel4Ideal.Gen

variable (m : (ℓ : Loc nD τ sig) → Buf (Elt Ideal) ℓ)

/-- The normalised rows of a point's block, as the body holds them. -/
abbrev XN (c : Dev nD) (t : Fin cfg0.N) : FVec Ideal S512x1024 .bf16 := k0_pay4 (iblk m c 0 t) (iblk m c 1 t)

/-- Entries at equal coordinates are equal. -/
theorem entry_eq {α : Type} {n0 n1 : ℕ} (f : (⟨2, ![n0, n1]⟩ : Shape).Idx → α) {r r' : Fin n0} {l l' : Fin n1} (h0 : r.val = r'.val) (h1 : l.val = l'.val) :
    f (ix2 r l) = f (ix2 r' l') := by
  rw [Fin.ext h0, Fin.ext h1]

/-- The queries' block, head by head. -/
theorem out19 (c : Dev nD) (t : Fin cfg0.N) (a : Fin 1) (h : Fin 8) (r : Fin 512) (d : Fin 64) :
    (left m c t.val t.isLt).1 (ix4 a h r d) = k0_pay15 (XN m c t) (iblk m c 2 t) (iblk m c 8 t) (iblk m c 11 t) (ix2 r ⟨h.val * 64 + d.val, by omega⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise [k0_pay16, k0_pay25]
      exact entry_eq (k0_pay15 (XN m c t) (iblk m c 2 t) (iblk m c 8 t) (iblk m c 11 t)) k2.symm (by dsimp only; omega)

/-- A block of a key or value part, head by head. -/
theorem out20 (c : Dev nD) (t : Fin cfg0.N) (a : Fin 1) (h : Fin 2) (r : Fin 512) (d : Fin 64) :
    (left m c t.val t.isLt).2.1 (ix4 a h r d) = k0_pay27 (XN m c t) (iblk m c 3 t) (ix2 r ⟨h.val * 64 + d.val, by omega⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise [k0_pay42]
      exact entry_eq (k0_pay27 (XN m c t) (iblk m c 3 t)) k2.symm (by dsimp only; omega)

/-- A block of a key or value part, head by head. -/
theorem out21 (c : Dev nD) (t : Fin cfg0.N) (a : Fin 1) (h : Fin 2) (r : Fin 512) (d : Fin 64) :
    (left m c t.val t.isLt).2.2.1 (ix4 a h r d) = k0_pay28 (XN m c t) (iblk m c 3 t) (ix2 r ⟨h.val * 64 + d.val, by omega⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise [k0_pay43]
      exact entry_eq (k0_pay28 (XN m c t) (iblk m c 3 t)) k2.symm (by dsimp only; omega)

/-- A block of a key or value part with the lanes beside it. -/
theorem out23 (c : Dev nD) (t : Fin cfg0.N) (a : Fin 1) (h : Fin 2) (r : Fin 512) (d : Fin 128) :
    (left m c t.val t.isLt).2.2.2.2.1 (ix4 a h r d) = if d.val < 64 then k0_pay30 (XN m c t) (iblk m c 3 t) (ix2 r ⟨(h.val * 64 + d.val) % 128, Nat.mod_lt _ (by decide)⟩) else k0_pay40 (F := Ideal) (ix2 r ⟨d.val % 64, Nat.mod_lt _ (by decide)⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise
      first
        | rw [if_pos (show d.val < 64 by omega)]
          exact entry_eq (k0_pay30 (XN m c t) (iblk m c 3 t)) k2.symm (by dsimp only; omega)
        | rw [if_neg (show ¬d.val < 64 by omega)]
          exact entry_eq (k0_pay40 (F := Ideal)) k2.symm (by dsimp only; omega)

/-- A block of a key or value part with the lanes beside it. -/
theorem out24 (c : Dev nD) (t : Fin cfg0.N) (a : Fin 1) (h : Fin 2) (r : Fin 512) (d : Fin 128) :
    (left m c t.val t.isLt).2.2.2.2.2.1 (ix4 a h r d) = if d.val < 64 then k0_pay31 (XN m c t) (iblk m c 3 t) (iblk m c 9 t) (iblk m c 13 t) (ix2 r ⟨(h.val * 64 + d.val) % 128, Nat.mod_lt _ (by decide)⟩) else k0_pay39 (F := Ideal) (ix2 r ⟨d.val % 64, Nat.mod_lt _ (by decide)⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise
      first
        | rw [if_pos (show d.val < 64 by omega)]
          exact entry_eq (k0_pay31 (XN m c t) (iblk m c 3 t) (iblk m c 9 t) (iblk m c 13 t)) k2.symm (by dsimp only; omega)
        | rw [if_neg (show ¬d.val < 64 by omega)]
          exact entry_eq (k0_pay39 (F := Ideal)) k2.symm (by dsimp only; omega)

/-- A block of a key or value part with the lanes beside it. -/
theorem out25 (c : Dev nD) (t : Fin cfg0.N) (a : Fin 1) (h : Fin 2) (r : Fin 512) (d : Fin 128) :
    (left m c t.val t.isLt).2.2.2.2.2.2.1 (ix4 a h r d) = if d.val < 64 then k0_pay32 (XN m c t) (iblk m c 3 t) (ix2 r ⟨(h.val * 64 + d.val) % 128, Nat.mod_lt _ (by decide)⟩) else k0_pay41 (F := Ideal) (ix2 r ⟨d.val % 64, Nat.mod_lt _ (by decide)⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise
      first
        | rw [if_pos (show d.val < 64 by omega)]
          exact entry_eq (k0_pay32 (XN m c t) (iblk m c 3 t)) k2.symm (by dsimp only; omega)
        | rw [if_neg (show ¬d.val < 64 by omega)]
          exact entry_eq (k0_pay41 (F := Ideal)) k2.symm (by dsimp only; omega)

/-- A block of the selection's keys with the lanes beside them. -/
theorem out22 (c : Dev nD) (t : Fin cfg0.N) (a : Fin 1) (h : Fin 2) (r : Fin 512) (d : Fin 256) :
    (left m c t.val t.isLt).2.2.2.1 (ix4 a h r d) = if d.val < 64 then k0_pay29 (XN m c t) (iblk m c 3 t) (iblk m c 9 t) (iblk m c 12 t) (ix2 r ⟨(h.val * 64 + d.val) % 128, Nat.mod_lt _ (by decide)⟩) else if d.val < 128 then k0_pay39 (F := Ideal) (ix2 r ⟨d.val % 64, Nat.mod_lt _ (by decide)⟩) else k0_pay38 (F := Ideal) (k0_pay34 (BitVec.ofNat 32 ↑(grid0.coords t 0))) (k0_pay35 (BitVec.ofNat 32 ↑(grid0.coords t 0))) (k0_pay36 (BitVec.ofNat 32 ↑(grid0.coords t 0))) k0_pay37 (ix2 r ⟨d.val % 128, Nat.mod_lt _ (by decide)⟩) := by
  by_cases hc : t.val % 16 = 0
  on_goal 1 => rw [left_A m c t hc]; unfold leftA runA
  on_goal 2 => rw [left_B m c t hc]; unfold leftB runB
  all_goals
    frame_out
    canon_tiles x k using (View.cover_of_tiledBy _ ![1, 1, 512, 64] (by sl_kernel_rfl) _)
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise [k0_pay44]
      first
        | rw [if_pos (show d.val < 64 by omega)]
          exact entry_eq (k0_pay29 (XN m c t) (iblk m c 3 t) (iblk m c 9 t) (iblk m c 12 t)) k2.symm (by dsimp only; omega)
        | rw [if_neg (show ¬d.val < 64 by omega), if_pos (show d.val < 128 by omega)]
          first
            | exact entry_eq (k0_pay39 (F := Ideal)) k2.symm (by dsimp only; omega)
            | rfl
        | rw [if_neg (show ¬d.val < 64 by omega), if_neg (show ¬d.val < 128 by omega)]
          exact entry_eq (k0_pay38 (F := Ideal) (k0_pay34 (BitVec.ofNat 32 ↑(grid0.coords t 0))) (k0_pay35 (BitVec.ofNat 32 ↑(grid0.coords t 0))) (k0_pay36 (BitVec.ofNat 32 ↑(grid0.coords t 0))) k0_pay37) k2.symm (by dsimp only; omega)

/-- A block of the attention gates, head by head. -/
theorem out26 (c : Dev nD) (t : Fin cfg0.N) (a : Fin 1) (h : Fin 2) (r : Fin 512) (d : Fin 128) :
    (left m c t.val t.isLt).2.2.2.2.2.2.2.1 (ix4 a h r d) = k0_pay33 (XN m c t) (iblk m c 4 t) (ix2 r ⟨h.val * 128 + d.val, by omega⟩) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, x2, x3, rfl⟩ : ∃ x0 x1 x2 x3, x = ix4 x0 x1 x2 x3 := ⟨x 0, x 1, x 2, x 3, eq_ix4 x⟩
      first | replace k1 : h.val = _ + x1.val := k1 | replace k1 : h.val = x1.val := k1
      replace k2 : r.val = x2.val := k2
      first | replace k3 : d.val = _ + x3.val := k3 | replace k3 : d.val = x3.val := k3
      clear k0 x0_lt x1_lt x2_lt x3_lt hc
      pointwise [k0_pay68]
      exact entry_eq (k0_pay33 (XN m c t) (iblk m c 4 t)) k2.symm (by dsimp only; omega)

/-- A block of the memory queries. -/
theorem out28 (c : Dev nD) (t : Fin cfg0.N) (y : S512x512.Idx) :
    (left m c t.val t.isLt).2.2.2.2.2.2.2.2.2.1 y = k0_pay79 (XN m c t) (iblk m c 6 t) (iblk m c 10 t) (iblk m c 14 t) y := by
  by_cases hc : t.val % 16 = 0
  on_goal 1 => rw [left_A m c t hc]; unfold leftA runA
  on_goal 2 => rw [left_B m c t hc]; unfold leftB runB
  all_goals
    frame_out

/-- A block of the merge's gates. -/
theorem out29 (c : Dev nD) (t : Fin cfg0.N) (r : Fin 512) (l : Fin 3072) :
    (left m c t.val t.isLt).2.2.2.2.2.2.2.2.2.2.1 (ix2 r l) = sigma (∑ k, XN m c t (ix2 r k) * iblk m c 7 t (ix2 k l)) := by
  by_cases hc : t.val % 16 = 0
  on_goal 1 => rw [left_A m c t hc]; unfold leftA runA
  on_goal 2 => rw [left_B m c t hc]; unfold leftB runB
  all_goals
    frame_out
    canon_tiles x k
    all_goals
      obtain ⟨x0, x1, rfl⟩ : ∃ x0 x1, x = ix2 x0 x1 := ⟨x 0, x 1, eq_ix2 x⟩
      replace k0 : r.val = x0.val := k0
      clear x0_lt x1_lt hc
      obtain rfl : x0 = r := Fin.ext (by omega)
      simp only [gm0_pay, gm1_pay, gm2_pay]
      refine congrArg sigma (Finset.sum_congr rfl fun j _ => congrArg (XN m c t (ix2 x0 j) * ·) ?_)
      refine View.ld_unit_apply_of _ _ _ _ _ _ fun b => ?_
      fin_cases b
      · exact (Nat.zero_add _).symm
      · first
          | exact k1
          | exact k1.trans (Nat.zero_add _).symm

end Cert.Inproj

end
-- ==== Proof.InprojBlocks.lean ====
module

public import proofs.«01_k».proof.Proof.Gen.Kernel4Ideal.Frame.Runs
public import proofs.«01_k».proof.Proof.InprojHeads
public import Idealize.ShloMosaic.Lib.StableHlo.ReadAt

@[expose] public section

set_option maxRecDepth 16384

noncomputable section

open Idealize.ShloMosaic Idealize.ShloMosaic.TcCoe Idealize.SL.Sem
open scoped BigOperators

namespace Cert.Inproj

open Cert.Kernel4Ideal Cert.Kernel4Ideal.Gen

variable (m : (ℓ : Loc nD τ sig) → Buf (Elt Ideal) ℓ)

/-- The block index of the windows from 0 on at every grid point. -/
theorem idx_a : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0] :=
  (by decide +kernel : ∀ t : Fin grid0.N, _)

/-- The block index of the windows from 10 on at every grid point. -/
theorem idx_b : ∀ t : Fin cfg0.N, win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

/-- The block index of the windows from 19 on at every grid point. -/
theorem idx_c : ∀ t : Fin cfg0.N, win0_19.index t = ![t.val / 16, 0, t.val % 16, 0]
    ∧ win0_20.index t = ![t.val / 16, 0, t.val % 16, 0]
    ∧ win0_21.index t = ![t.val / 16, 0, t.val % 16, 0]
    ∧ win0_22.index t = ![t.val / 16, 0, t.val % 16, 0]
    ∧ win0_23.index t = ![t.val / 16, 0, t.val % 16, 0]
    ∧ win0_24.index t = ![t.val / 16, 0, t.val % 16, 0]
    ∧ win0_25.index t = ![t.val / 16, 0, t.val % 16, 0]
    ∧ win0_26.index t = ![t.val / 16, 0, t.val % 16, 0]
    ∧ win0_27.index t = ![t.val, 0]
    ∧ win0_28.index t = ![t.val, 0]
    ∧ win0_29.index t = ![t.val, 0] :=
  (by decide +kernel : ∀ t : Fin grid0.N, _)

theorem blk_x (c : Dev nD) (t : Fin cfg0.N) (r : Fin 512) (j : Fin 1024) :
    iblk m c 0 t (ix2 r j) = m ((c : Thread nD τ).loc main_arg0) (ix3 ⟨t.val / 16, by have ht : t.val < 128 := t.isLt; omega⟩ ⟨t.val % 16 * 512 + r.val, by omega⟩ j) := by
  have ht : t.val < 128 := t.isLt
  blk_simp [iblk, idx_a t]
  have e : ((View.whole main_v68).slice (win0_0.rect t)).emb (ix2 r j) = ix2 ⟨512 * t.val + r.val, by omega⟩ j := by blk_ext [idx_a t]
  rw [e]
  unfold V
  after_reads_at
  refine congrArg₂ (fun a b => m ((c : Thread nD τ).loc main_arg0) (ix3 a b j)) (Fin.ext ?_) (Fin.ext ?_) <;> dsimp only <;> omega

theorem blk_g (c : Dev nD) (t : Fin cfg0.N) (j : Fin 1024) : iblk m c 1 t (ix2 0 j) = m ((c : Thread nD τ).loc main_arg1) (ix1 j) := by
  blk_simp [iblk, idx_a t]
  have e : ((View.whole main_v63).slice (win0_1.rect t)).emb (ix2 (0 : Fin 1) j) = ix2 (0 : Fin 1) j := by blk_ext [idx_a t]
  rw [e]
  unfold V
  after_reads_at

theorem blk_wq (c : Dev nD) (t : Fin cfg0.N) (k : Fin 1024) (l : Fin 512) :
    iblk m c 2 t (ix2 k l) = m ((c : Thread nD τ).loc main_arg2) (ix2 k ⟨l.val, by omega⟩) := by
  blk_simp [iblk, idx_a t]
  have e : ((View.whole main_v6).slice (win0_2.rect t)).emb (ix2 k l) = ix2 k l := by blk_ext [idx_a t]
  rw [e]
  unfold V
  after_reads_at

theorem blk_wkv (c : Dev nD) (t : Fin cfg0.N) (k : Fin 1024) (l : Fin 768) :
    iblk m c 3 t (ix2 k l) = m ((c : Thread nD τ).loc main_arg2) (ix2 k ⟨512 + l.val, by omega⟩) := by
  blk_simp [iblk, idx_a t]
  have e : ((View.whole main_v7).slice (win0_3.rect t)).emb (ix2 k l) = ix2 k l := by blk_ext [idx_a t]
  rw [e]
  unfold V
  after_reads_at

theorem blk_wm (c : Dev nD) (t : Fin cfg0.N) (k : Fin 1024) (l : Fin 512) :
    iblk m c 6 t (ix2 k l) = m ((c : Thread nD τ).loc main_arg2) (ix2 k ⟨2328 + l.val, by omega⟩) := by
  blk_simp [iblk, idx_a t]
  have e : ((View.whole main_v10).slice (win0_6.rect t)).emb (ix2 k l) = ix2 k l := by blk_ext [idx_a t]
  rw [e]
  unfold V
  after_reads_at

theorem blk_wgm (c : Dev nD) (t : Fin cfg0.N) (k : Fin 1024) (l : Fin 3072) :
    iblk m c 7 t (ix2 k l) = m ((c : Thread nD τ).loc main_arg2) (ix2 k ⟨2840 + l.val, by omega⟩) := by
  blk_simp [iblk, idx_a t]
  have e : ((View.whole main_v11).slice (win0_7.rect t)).emb (ix2 k l) = ix2 k l := by blk_ext [idx_a t]
  rw [e]
  unfold V
  after_reads_at

theorem dite_and_left {α : Type} {p q : Prop} [Decidable (p ∧ q)] [Decidable q] (hp : p) (f : p ∧ q → α) (g : q → α) (z w : α)
    (hf : ∀ h h', f h = g h') (hz : z = w) : (if h : p ∧ q then f h else z) = if h : q then g h else w := by
  by_cases h : q
  · rw [dif_pos ⟨hp, h⟩, dif_pos h]; exact hf _ _
  · rw [dif_neg (fun h' => h h'.2), dif_neg h]; exact hz

theorem sitofp_zero : FloatOps.sitofp (F := Ideal) .bf16 0#32 = (0 : EReal) := by
  simp [FloatOps.sitofp]

theorem blk_wg (c : Dev nD) (t : Fin cfg0.N) (k : Fin 1024) (l : Fin 256) :
    iblk m c 4 t (ix2 k l) = if h : l.val % 128 < 12 then m ((c : Thread nD τ).loc main_arg2) (ix2 k ⟨1280 + (l.val / 128 * 12 + l.val % 128), by omega⟩) else (0 : EReal) := by
  blk_simp [iblk, idx_a t]
  have e : ((View.whole main_v14).slice (win0_4.rect t)).emb (ix2 k l) = ix2 k l := by blk_ext [idx_a t]
  rw [e]
  unfold V
  after_reads_at

  have h2 : l.val / 128 < 2 := by omega
  exact dite_and_left h2 _ _ _ _ (fun _ _ => rfl) sitofp_zero

theorem word_eq (a b : ℕ) (ha : a < 2 ^ 32) (hb : b < 2 ^ 32) : (BitVec.ofNat 32 a = BitVec.ofNat 32 b) ↔ a = b := by
  rw [← BitVec.toNat_inj]
  simp only [BitVec.toNat_ofNat]
  omega

theorem blk_bdq (c : Dev nD) (t : Fin cfg0.N) (j l : Fin 512) :
    iblk m c 8 t (ix2 j l) = Ideal.div (if j.val / 64 = l.val / 64 then 1 else 0) (Ideal.ofBits .f32 0x42800000#32) := by
  blk_simp [iblk, idx_a t]
  have e : ((View.whole main_v46).slice (win0_8.rect t)).emb (ix2 j l) = ix2 j l := by blk_ext [idx_a t]
  rw [e]
  unfold V
  after_reads_at

  rw [Reference.bit_eq]
  simp only [word_eq (j.val / 64) (l.val / 64) (by omega) (by omega)]

theorem blk_bdk (c : Dev nD) (t : Fin cfg0.N) (j l : Fin 128) :
    iblk m c 9 t (ix2 j l) = Ideal.div (if j.val / 64 = l.val / 64 then 1 else 0) (Ideal.ofBits .f32 0x42800000#32) := by
  blk_simp [iblk, idx_a t]
  have e : ((View.whole main_v54).slice (win0_9.rect t)).emb (ix2 j l) = ix2 j l := by blk_ext [idx_a t]
  rw [e]
  unfold V
  after_reads_at

  rw [Reference.bit_eq]
  simp only [word_eq (j.val / 64) (l.val / 64) (by omega) (by omega)]

theorem blk_bdm (c : Dev nD) (t : Fin cfg0.N) (j l : Fin 512) :
    iblk m c 10 t (ix2 j l) = Ideal.div (if j.val / 128 = l.val / 128 then 1 else 0) (Ideal.ofBits .f32 0x43000000#32) := by
  blk_simp [iblk, idx_b t]
  have e : ((View.whole main_v62).slice (win0_10.rect t)).emb (ix2 j l) = ix2 j l := by blk_ext [idx_b t]
  rw [e]
  unfold V
  after_reads_at

  rw [Reference.bit_eq]
  simp only [word_eq (j.val / 128) (l.val / 128) (by omega) (by omega)]

theorem blk_gq (c : Dev nD) (t : Fin cfg0.N) (l : Fin 512) :
    iblk m c 11 t (ix2 0 l) = m ((c : Thread nD τ).loc main_arg3) (ix2 0 ⟨l.val % 64, by omega⟩) := by
  blk_simp [iblk, idx_b t]
  have e : ((View.whole main_v20).slice (win0_11.rect t)).emb (ix2 (0 : Fin 1) l) = ix2 (0 : Fin 1) l := by blk_ext [idx_b t]
  rw [e]
  unfold V
  after_reads_at

theorem blk_gks (c : Dev nD) (t : Fin cfg0.N) (l : Fin 128) :
    iblk m c 12 t (ix2 0 l) = m ((c : Thread nD τ).loc main_arg3) (ix2 2 ⟨l.val % 64, by omega⟩) := by
  blk_simp [iblk, idx_b t]
  have e : ((View.whole main_v26).slice (win0_12.rect t)).emb (ix2 (0 : Fin 1) l) = ix2 (0 : Fin 1) l := by blk_ext [idx_b t]
  rw [e]
  unfold V
  after_reads_at

theorem blk_gkw (c : Dev nD) (t : Fin cfg0.N) (l : Fin 128) :
    iblk m c 13 t (ix2 0 l) = m ((c : Thread nD τ).loc main_arg3) (ix2 3 ⟨l.val % 64, by omega⟩) := by
  blk_simp [iblk, idx_b t]
  have e : ((View.whole main_v32).slice (win0_13.rect t)).emb (ix2 (0 : Fin 1) l) = ix2 (0 : Fin 1) l := by blk_ext [idx_b t]
  rw [e]
  unfold V
  after_reads_at

theorem blk_gqm (c : Dev nD) (t : Fin cfg0.N) (l : Fin 512) :
    iblk m c 14 t (ix2 0 l) = m ((c : Thread nD τ).loc main_arg4) (ix2 0 ⟨l.val % 128, by omega⟩) := by
  blk_simp [iblk, idx_b t]
  have e : ((View.whole main_v38).slice (win0_14.rect t)).emb (ix2 (0 : Fin 1) l) = ix2 (0 : Fin 1) l := by blk_ext [idx_b t]
  rw [e]
  unfold V
  after_reads_at

end Cert.Inproj

end
-- ==== Proof.InprojValue.lean ====
module

public import proofs.«01_k».proof.Proof.InprojOuts
public import proofs.«01_k».proof.Proof.InprojBlocks
public import Idealize.ShloMosaic.Lib.Pipeline.ValueKit

@[expose] public section

set_option maxRecDepth 16384

noncomputable section

open Idealize.ShloMosaic Idealize.ShloMosaic.TcCoe Idealize.SL.Sem
open scoped BigOperators

namespace Cert.Inproj

open Cert.Kernel4Ideal Cert.Kernel4Ideal.Gen

variable (m : (ℓ : Loc nD τ sig) → Buf (Elt Ideal) ℓ)

/-- Entries at equal coordinates are equal. -/
theorem entry3_eq {α : Type} {n0 n1 n2 : ℕ} (f : (⟨3, ![n0, n1, n2]⟩ : Shape).Idx → α) {a a' : Fin n0} {b b' : Fin n1} {l l' : Fin n2}
    (h0 : a.val = a'.val) (h1 : b.val = b'.val) (h2 : l.val = l'.val) : f (ix3 a b l) = f (ix3 a' b' l') := by
  rw [Fin.ext h0, Fin.ext h1, Fin.ext h2]

/-- The reference's projection of the run's arguments. -/
abbrev PP (c : Dev nD) : FVec Ideal Cert.Reference4Ideal.S8x8192x5912 .f32 := Reference.PJ (m ((c : Thread nD τ).loc main_arg0)) (m ((c : Thread nD τ).loc main_arg1)) (m ((c : Thread nD τ).loc main_arg2))

/-- A row of a block times a column of weights is the projection's entry. -/
theorem proj (c : Dev nD) (t : Fin cfg0.N) (r : Fin 512) (l : Fin 5912) (w : Fin 1024 → EReal) (hw : ∀ k, w k = (m ((c : Thread nD τ).loc main_arg2)) (ix2 k l)) :
    ∑ k, XN m c t (ix2 r k) * w k = PP m c (ix3 ⟨t.val / 16, by have ht : t.val < 128 := t.isLt; omega⟩ ⟨t.val % 16 * 512 + r.val, by omega⟩ l) := by
  refine Eq.trans ?_ (Reference.pj_ref _ _ _ _ _ _).symm
  refine Finset.sum_congr rfl fun k _ => ?_
  rw [hw]
  refine congrArg (· * _) ((xn_pay _ _ r k).trans ?_)
  simp only [blk_x, blk_g]

/-- An entry of the queries' block. -/
theorem q_col (c : Dev nD) (t : Fin cfg0.N) (r : Fin 512) (l : Fin 512) :
    k0_pay15 (XN m c t) (iblk m c 2 t) (iblk m c 8 t) (iblk m c 11 t) (ix2 r l)
      = head64 (fun d => PP m c (ix3 ⟨t.val / 16, by have ht : t.val < 128 := t.isLt; omega⟩ ⟨t.val % 16 * 512 + r.val, by omega⟩ ⟨0 + (l.val / 64 * 64 + d.val), by omega⟩)) ((m ((c : Thread nD τ).loc main_arg3)) (ix2 0 ⟨l.val % 64, by omega⟩)) ⟨l.val % 64, by omega⟩ := by
  rw [q_pay, kn_64 (H := 8) rfl _ _ _ l (by omega) (fun j => blk_bdq m c t j l), blk_gq]
  refine congrArg (fun f => head64 f _ _) (funext fun d => ?_)
  exact (proj m c t r _ _ fun k => blk_wq m c t k _).trans (entry3_eq _ rfl rfl (by dsimp only <;> omega))

/-- An entry of the selection keys' block. -/
theorem ks_col (c : Dev nD) (t : Fin cfg0.N) (r : Fin 512) (l : Fin 128) :
    k0_pay29 (XN m c t) (iblk m c 3 t) (iblk m c 9 t) (iblk m c 12 t) (ix2 r l)
      = head64 (fun d => PP m c (ix3 ⟨t.val / 16, by have ht : t.val < 128 := t.isLt; omega⟩ ⟨t.val % 16 * 512 + r.val, by omega⟩ ⟨768 + (l.val / 64 * 64 + d.val), by omega⟩)) ((m ((c : Thread nD τ).loc main_arg3)) (ix2 2 ⟨l.val % 64, by omega⟩)) ⟨l.val % 64, by omega⟩ := by
  rw [ks_pay, kn_64 (H := 2) rfl _ _ _ l (by omega) (fun j => blk_bdk m c t j l), blk_gks]
  refine congrArg (fun f => head64 f _ _) (funext fun d => ?_)
  exact (proj m c t r _ _ fun k => blk_wkv m c t k _).trans (entry3_eq _ rfl rfl (by dsimp only <;> omega))

/-- An entry of the window keys' block. -/
theorem kw_col (c : Dev nD) (t : Fin cfg0.N) (r : Fin 512) (l : Fin 128) :
    k0_pay31 (XN m c t) (iblk m c 3 t) (iblk m c 9 t) (iblk m c 13 t) (ix2 r l)
      = head64 (fun d => PP m c (ix3 ⟨t.val / 16, by have ht : t.val < 128 := t.isLt; omega⟩ ⟨t.val % 16 * 512 + r.val, by omega⟩ ⟨1024 + (l.val / 64 * 64 + d.val), by omega⟩)) ((m ((c : Thread nD τ).loc main_arg3)) (ix2 3 ⟨l.val % 64, by omega⟩)) ⟨l.val % 64, by omega⟩ := by
  rw [kw_pay, kn_64 (H := 2) rfl _ _ _ l (by omega) (fun j => blk_bdk m c t j l), blk_gkw]
  refine congrArg (fun f => head64 f _ _) (funext fun d => ?_)
  exact (proj m c t r _ _ fun k => blk_wkv m c t k _).trans (entry3_eq _ rfl rfl (by dsimp only <;> omega))

/-- An entry of the memory queries' block. -/
theorem qm_col (c : Dev nD) (t : Fin cfg0.N) (r : Fin 512) (l : Fin 512) :
    k0_pay79 (XN m c t) (iblk m c 6 t) (iblk m c 10 t) (iblk m c 14 t) (ix2 r l)
      = head128 (fun d => PP m c (ix3 ⟨t.val / 16, by have ht : t.val < 128 := t.isLt; omega⟩ ⟨t.val % 16 * 512 + r.val, by omega⟩ ⟨2328 + (l.val / 128 * 128 + d.val), by omega⟩)) ((m ((c : Thread nD τ).loc main_arg4)) (ix2 0 ⟨l.val % 128, by omega⟩)) ⟨l.val % 128, by omega⟩ := by
  rw [qm_pay, kn_128 (H := 4) rfl _ _ _ l (by omega) (fun j => blk_bdm m c t j l), blk_gqm]
  refine congrArg (fun f => head128 f _ _) (funext fun d => ?_)
  exact (proj m c t r _ _ fun k => blk_wm m c t k _).trans (entry3_eq _ rfl rfl (by dsimp only <;> omega))

/-- An entry of a key or value part left as projected. -/
theorem kv27_col (c : Dev nD) (t : Fin cfg0.N) (r : Fin 512) (l : Fin 128) :
    k0_pay27 (XN m c t) (iblk m c 3 t) (ix2 r l) = PP m c (ix3 ⟨t.val / 16, by have ht : t.val < 128 := t.isLt; omega⟩ ⟨t.val % 16 * 512 + r.val, by omega⟩ ⟨512 + (0 + l.val), by omega⟩) := by
  pointwise [k0_pay27]
  rw [kv_pay]
  exact (proj m c t r _ _ fun k => blk_wkv m c t k _).trans (entry3_eq _ rfl rfl (by dsimp only <;> omega))

/-- An entry of a key or value part left as projected. -/
theorem kv28_col (c : Dev nD) (t : Fin cfg0.N) (r : Fin 512) (l : Fin 128) :
    k0_pay28 (XN m c t) (iblk m c 3 t) (ix2 r l) = PP m c (ix3 ⟨t.val / 16, by have ht : t.val < 128 := t.isLt; omega⟩ ⟨t.val % 16 * 512 + r.val, by omega⟩ ⟨512 + (128 + l.val), by omega⟩) := by
  pointwise [k0_pay28]
  rw [kv_pay]
  exact (proj m c t r _ _ fun k => blk_wkv m c t k _).trans (entry3_eq _ rfl rfl (by dsimp only <;> omega))

/-- An entry of a key or value part left as projected. -/
theorem kv30_col (c : Dev nD) (t : Fin cfg0.N) (r : Fin 512) (l : Fin 128) :
    k0_pay30 (XN m c t) (iblk m c 3 t) (ix2 r l) = PP m c (ix3 ⟨t.val / 16, by have ht : t.val < 128 := t.isLt; omega⟩ ⟨t.val % 16 * 512 + r.val, by omega⟩ ⟨512 + (384 + l.val), by omega⟩) := by
  pointwise [k0_pay30]
  rw [kv_pay]
  exact (proj m c t r _ _ fun k => blk_wkv m c t k _).trans (entry3_eq _ rfl rfl (by dsimp only <;> omega))

/-- An entry of a key or value part left as projected. -/
theorem kv32_col (c : Dev nD) (t : Fin cfg0.N) (r : Fin 512) (l : Fin 128) :
    k0_pay32 (XN m c t) (iblk m c 3 t) (ix2 r l) = PP m c (ix3 ⟨t.val / 16, by have ht : t.val < 128 := t.isLt; omega⟩ ⟨t.val % 16 * 512 + r.val, by omega⟩ ⟨512 + (640 + l.val), by omega⟩) := by
  pointwise [k0_pay32]
  rw [kv_pay]
  exact (proj m c t r _ _ fun k => blk_wkv m c t k _).trans (entry3_eq _ rfl rfl (by dsimp only <;> omega))

/-- An entry of the attention gates' block: past the gates the weights are zero and the logistic function gives one half. -/
theorem gate_col (c : Dev nD) (t : Fin cfg0.N) (r : Fin 512) (l : Fin 256) :
    k0_pay33 (XN m c t) (iblk m c 4 t) (ix2 r l)
      = if h : l.val % 128 < 12 then sigma (PP m c (ix3 ⟨t.val / 16, by have ht : t.val < 128 := t.isLt; omega⟩ ⟨t.val % 16 * 512 + r.val, by omega⟩ ⟨1280 + (l.val / 128 * 12 + l.val % 128), by omega⟩)) else Ideal.ofBits .f32 0x3F000000#32 := by
  rw [gate_pay]
  by_cases h : l.val % 128 < 12
  · rw [dif_pos h]
    exact congrArg sigma (proj m c t r _ _ fun k => (blk_wg m c t k l).trans (dif_pos h))
  · rw [dif_neg h, ← sigma_zero]
    refine congrArg sigma (Finset.sum_eq_zero fun k _ => ?_)
    rw [(blk_wg m c t k l).trans (dif_neg h), mul_zero]

/-- An entry of the merge gates' block. -/
theorem gm_col (c : Dev nD) (t : Fin cfg0.N) (r : Fin 512) (l : Fin 3072) :
    sigma (∑ k, XN m c t (ix2 r k) * iblk m c 7 t (ix2 k l)) = sigma (PP m c (ix3 ⟨t.val / 16, by have ht : t.val < 128 := t.isLt; omega⟩ ⟨t.val % 16 * 512 + r.val, by omega⟩ ⟨2840 + l.val, by omega⟩)) :=
  congrArg sigma (proj m c t r _ _ fun k => blk_wgm m c t k l)

/-- The selection keys' row of the gains, and the window keys'. -/
abbrev GS (c : Dev nD) : FVec Ideal Cert.Reference4Ideal.S1x64 .f32 := extractStridedSlice Cert.Reference4Ideal.S1x64 ![2, 0] (m ((c : Thread nD τ).loc main_arg3)) Cert.Reference4Ideal.Gen.slices_S4x64_S1x64_2_0
abbrev GW (c : Dev nD) : FVec Ideal Cert.Reference4Ideal.S1x64 .f32 := extractStridedSlice Cert.Reference4Ideal.S1x64 ![3, 0] (m ((c : Thread nD τ).loc main_arg3)) Cert.Reference4Ideal.Gen.slices_S4x64_S1x64_3_0

theorem gs_ref (c : Dev nD) (d : Fin 64) : GS m c (ix2 0 d) = (m ((c : Thread nD τ).loc main_arg3)) (ix2 2 d) := by
  pointwise [GS]

theorem gw_ref (c : Dev nD) (d : Fin 64) : GW m c (ix2 0 d) = (m ((c : Thread nD τ).loc main_arg3)) (ix2 3 d) := by
  pointwise [GW]

theorem kv0_ref (p : FVec Ideal Cert.Reference4Ideal.S8x8192x5912 .f32) (b : Fin 8) (s : Fin 8192) (l : Fin 128) :
    Reference.kv0 (Reference.KV p) (ix3 b s l) = p (ix3 b s ⟨512 + (0 + l.val), by omega⟩) := by
  pointwise [Reference.kv0, Reference.KV]

theorem kv1_ref (p : FVec Ideal Cert.Reference4Ideal.S8x8192x5912 .f32) (b : Fin 8) (s : Fin 8192) (l : Fin 128) :
    Reference.kv1 (Reference.KV p) (ix3 b s l) = p (ix3 b s ⟨512 + (128 + l.val), by omega⟩) := by
  pointwise [Reference.kv1, Reference.KV]

theorem kv2_ref (p : FVec Ideal Cert.Reference4Ideal.S8x8192x5912 .f32) (b : Fin 8) (s : Fin 8192) (l : Fin 128) :
    Reference.kv2 (Reference.KV p) (ix3 b s l) = p (ix3 b s ⟨512 + (256 + l.val), by omega⟩) := by
  pointwise [Reference.kv2, Reference.KV]

theorem kv3_ref (p : FVec Ideal Cert.Reference4Ideal.S8x8192x5912 .f32) (b : Fin 8) (s : Fin 8192) (l : Fin 128) :
    Reference.kv3 (Reference.KV p) (ix3 b s l) = p (ix3 b s ⟨512 + (384 + l.val), by omega⟩) := by
  pointwise [Reference.kv3, Reference.KV]

theorem kv4_ref (p : FVec Ideal Cert.Reference4Ideal.S8x8192x5912 .f32) (b : Fin 8) (s : Fin 8192) (l : Fin 128) :
    Reference.kv4 (Reference.KV p) (ix3 b s l) = p (ix3 b s ⟨512 + (512 + l.val), by omega⟩) := by
  pointwise [Reference.kv4, Reference.KV]

theorem kv5_ref (p : FVec Ideal Cert.Reference4Ideal.S8x8192x5912 .f32) (b : Fin 8) (s : Fin 8192) (l : Fin 128) :
    Reference.kv5 (Reference.KV p) (ix3 b s l) = p (ix3 b s ⟨512 + (640 + l.val), by omega⟩) := by
  pointwise [Reference.kv5, Reference.KV]

theorem coord_0 : ∀ t : Fin cfg0.N, (grid0.coords t 0).val = t.val := by decide +kernel

/-- The queries. -/
theorem point19 (c : Dev nD) (t : Fin cfg0.N) (a : Fin 1) (h : Fin 8) (r : Fin 512) (d : Fin 64) :
    (left m c t.val t.isLt).1 (ix4 a h r d) = (Reference.Q (Reference.QH (PP m c)) (m ((c : Thread nD τ).loc main_arg3))) (ix4 ⟨t.val / 16, by have ht : t.val < 128 := t.isLt; omega⟩ h ⟨t.val % 16 * 512 + r.val, by omega⟩ d) := by
  rw [out19, q_col, Reference.q_ref]
  have e0 : (h.val * 64 + d.val) / 64 = h.val := by omega
  have e1 : (h.val * 64 + d.val) % 64 = d.val := by omega
  simp only [Reference.qh_ref, e0, e1, Nat.zero_add, Fin.eta]

/-- The compression keys. -/
theorem point20 (c : Dev nD) (t : Fin cfg0.N) (a : Fin 1) (h : Fin 2) (r : Fin 512) (d : Fin 64) :
    (left m c t.val t.isLt).2.1 (ix4 a h r d) = (Reference.KH (Reference.kv0 (Reference.KV (PP m c)))) (ix4 ⟨t.val / 16, by have ht : t.val < 128 := t.isLt; omega⟩ h ⟨t.val % 16 * 512 + r.val, by omega⟩ d) := by
  rw [out20, kv27_col, Reference.kh_ref, kv0_ref]

/-- The compression values. -/
theorem point21 (c : Dev nD) (t : Fin cfg0.N) (a : Fin 1) (h : Fin 2) (r : Fin 512) (d : Fin 64) :
    (left m c t.val t.isLt).2.2.1 (ix4 a h r d) = (Reference.KH (Reference.kv1 (Reference.KV (PP m c)))) (ix4 ⟨t.val / 16, by have ht : t.val < 128 := t.isLt; omega⟩ h ⟨t.val % 16 * 512 + r.val, by omega⟩ d) := by
  rw [out21, kv28_col, Reference.kh_ref, kv1_ref]

/-- The selection keys. -/
theorem point22 (c : Dev nD) (t : Fin cfg0.N) (a : Fin 1) (h : Fin 2) (r : Fin 512) (d : Fin 256) :
    (left m c t.val t.isLt).2.2.2.1 (ix4 a h r d) = (Reference.KS (Reference.KN (Reference.KH (Reference.kv2 (Reference.KV (PP m c)))) (GS m c)) Reference.Z Reference.BLK) (ix4 ⟨t.val / 16, by have ht : t.val < 128 := t.isLt; omega⟩ h ⟨t.val % 16 * 512 + r.val, by omega⟩ d) := by
  rw [out22, Reference.ks_ref]
  by_cases h0 : d.val < 64
  · rw [if_pos h0, dif_pos h0, Reference.kn_ref, gs_ref, ks_col]
    have e0 : (h.val * 64 + d.val) % 128 / 64 = h.val := by omega
    have e1 : (h.val * 64 + d.val) % 128 % 64 = d.val := by omega
    simp only [Reference.kh_ref, kv2_ref, e0, e1]
    refine congrArg (fun f => head64 f _ _) (funext fun j => entry3_eq _ rfl rfl (by dsimp only; omega))
  · rw [if_neg h0, dif_neg h0]
    by_cases h1 : d.val < 128
    · rw [if_pos h1, dif_pos h1, Reference.z_ref]
      pointwise [k0_pay39]
    · rw [if_neg h1, dif_neg h1, Reference.blk_ref, coord_0, onehot_pay t.val t.isLt]
      have e : d.val % 128 = d.val - 128 := by omega
      simp only [e]

/-- The selection values. -/
theorem point23 (c : Dev nD) (t : Fin cfg0.N) (a : Fin 1) (h : Fin 2) (r : Fin 512) (d : Fin 128) :
    (left m c t.val t.isLt).2.2.2.2.1 (ix4 a h r d) = (Reference.VS (Reference.KH (Reference.kv3 (Reference.KV (PP m c)))) (Reference.ONE 0#32)) (ix4 ⟨t.val / 16, by have ht : t.val < 128 := t.isLt; omega⟩ h ⟨t.val % 16 * 512 + r.val, by omega⟩ d) := by
  rw [out23, Reference.vs_ref]
  by_cases h0 : d.val < 64
  · rw [if_pos h0, dif_pos h0, kv30_col, Reference.kh_ref, kv3_ref]
    exact entry3_eq _ rfl rfl (by dsimp only; omega)
  · rw [if_neg h0, dif_neg h0, Reference.one_ref, ones_sel_pay]
    exact congrArg (fun n => if BitVec.ofNat 32 n = _ then (1 : EReal) else 0) (by dsimp only; omega)

/-- The window keys. -/
theorem point24 (c : Dev nD) (t : Fin cfg0.N) (a : Fin 1) (h : Fin 2) (r : Fin 512) (d : Fin 128) :
    (left m c t.val t.isLt).2.2.2.2.2.1 (ix4 a h r d) = (Reference.VS (Reference.KN (Reference.KH (Reference.kv4 (Reference.KV (PP m c)))) (GW m c)) Reference.Z) (ix4 ⟨t.val / 16, by have ht : t.val < 128 := t.isLt; omega⟩ h ⟨t.val % 16 * 512 + r.val, by omega⟩ d) := by
  rw [out24, Reference.vs_ref]
  by_cases h0 : d.val < 64
  · rw [if_pos h0, dif_pos h0, Reference.kn_ref, gw_ref, kw_col]
    have e0 : (h.val * 64 + d.val) % 128 / 64 = h.val := by omega
    have e1 : (h.val * 64 + d.val) % 128 % 64 = d.val := by omega
    simp only [Reference.kh_ref, kv4_ref, e0, e1]
    refine congrArg (fun f => head64 f _ _) (funext fun j => entry3_eq _ rfl rfl (by dsimp only; omega))
  · rw [if_neg h0, dif_neg h0, Reference.z_ref]
    pointwise [k0_pay39]

/-- The window values. -/
theorem point25 (c : Dev nD) (t : Fin cfg0.N) (a : Fin 1) (h : Fin 2) (r : Fin 512) (d : Fin 128) :
    (left m c t.val t.isLt).2.2.2.2.2.2.1 (ix4 a h r d) = (Reference.VS (Reference.KH (Reference.kv5 (Reference.KV (PP m c)))) (Reference.ONE 1#32)) (ix4 ⟨t.val / 16, by have ht : t.val < 128 := t.isLt; omega⟩ h ⟨t.val % 16 * 512 + r.val, by omega⟩ d) := by
  rw [out25, Reference.vs_ref]
  by_cases h0 : d.val < 64
  · rw [if_pos h0, dif_pos h0, kv32_col, Reference.kh_ref, kv5_ref]
    exact entry3_eq _ rfl rfl (by dsimp only; omega)
  · rw [if_neg h0, dif_neg h0, Reference.one_ref, ones_win_pay]
    exact congrArg (fun n => if BitVec.ofNat 32 n = _ then (1 : EReal) else 0) (by dsimp only; omega)

/-- The attention gates. -/
theorem point26 (c : Dev nD) (t : Fin cfg0.N) (a : Fin 1) (h : Fin 2) (r : Fin 512) (d : Fin 128) :
    (left m c t.val t.isLt).2.2.2.2.2.2.2.1 (ix4 a h r d) = (Reference.GN (Reference.GT (PP m c))) (ix4 ⟨t.val / 16, by have ht : t.val < 128 := t.isLt; omega⟩ h ⟨t.val % 16 * 512 + r.val, by omega⟩ d) := by
  rw [out26, gate_col, Reference.gn_ref]
  have e0 : (h.val * 128 + d.val) / 128 = h.val := by omega
  have e1 : (h.val * 128 + d.val) % 128 = d.val := by omega
  by_cases h0 : d.val < 12
  · rw [dif_pos (by rw [e1]; exact h0), dif_pos h0, Reference.gt_ref]
    simp only [e0, e1]
  · rw [dif_neg (by rw [e1]; exact h0), dif_neg h0]

theorem final19 (c : Dev nD) : (dats m 0 c).arrAt 19 (cfgs 0).N = Reference.Q (Reference.QH (PP m c)) (m ((c : Thread nD τ).loc main_arg3)) := by
  refine (dats m 0 c).arrAt_eq_of_covers 19 _ (by decide +kernel) fun t hf y => ?_
  blk_simp; rw [after_19]
  obtain ⟨a, h, r, d, rfl⟩ : ∃ a h r d, y = ix4 a h r d := ⟨y 0, y 1, y 2, y 3, eq_ix4 y⟩
  have e : ((cfg0.win 19).blk t).view.emb (ix4 a h r d) = ix4 ⟨t.val / 16, by have ht : t.val < 128 := t.isLt; omega⟩ h ⟨t.val % 16 * 512 + r.val, by omega⟩ d := by
    blk_ext [idx_c t]
  rw [e]
  exact point19 m c t a h r d

theorem final20 (c : Dev nD) : (dats m 0 c).arrAt 20 (cfgs 0).N = Reference.KH (Reference.kv0 (Reference.KV (PP m c))) := by
  refine (dats m 0 c).arrAt_eq_of_covers 20 _ (by decide +kernel) fun t hf y => ?_
  blk_simp; rw [after_20]
  obtain ⟨a, h, r, d, rfl⟩ : ∃ a h r d, y = ix4 a h r d := ⟨y 0, y 1, y 2, y 3, eq_ix4 y⟩
  have e : ((cfg0.win 20).blk t).view.emb (ix4 a h r d) = ix4 ⟨t.val / 16, by have ht : t.val < 128 := t.isLt; omega⟩ h ⟨t.val % 16 * 512 + r.val, by omega⟩ d := by
    blk_ext [idx_c t]
  rw [e]
  exact point20 m c t a h r d

theorem final21 (c : Dev nD) : (dats m 0 c).arrAt 21 (cfgs 0).N = Reference.KH (Reference.kv1 (Reference.KV (PP m c))) := by
  refine (dats m 0 c).arrAt_eq_of_covers 21 _ (by decide +kernel) fun t hf y => ?_
  blk_simp; rw [after_21]
  obtain ⟨a, h, r, d, rfl⟩ : ∃ a h r d, y = ix4 a h r d := ⟨y 0, y 1, y 2, y 3, eq_ix4 y⟩
  have e : ((cfg0.win 21).blk t).view.emb (ix4 a h r d) = ix4 ⟨t.val / 16, by have ht : t.val < 128 := t.isLt; omega⟩ h ⟨t.val % 16 * 512 + r.val, by omega⟩ d := by
    blk_ext [idx_c t]
  rw [e]
  exact point21 m c t a h r d

theorem final22 (c : Dev nD) : (dats m 0 c).arrAt 22 (cfgs 0).N = Reference.KS (Reference.KN (Reference.KH (Reference.kv2 (Reference.KV (PP m c)))) (GS m c)) Reference.Z Reference.BLK := by
  refine (dats m 0 c).arrAt_eq_of_covers 22 _ (by decide +kernel) fun t hf y => ?_
  blk_simp; rw [after_22]
  obtain ⟨a, h, r, d, rfl⟩ : ∃ a h r d, y = ix4 a h r d := ⟨y 0, y 1, y 2, y 3, eq_ix4 y⟩
  have e : ((cfg0.win 22).blk t).view.emb (ix4 a h r d) = ix4 ⟨t.val / 16, by have ht : t.val < 128 := t.isLt; omega⟩ h ⟨t.val % 16 * 512 + r.val, by omega⟩ d := by
    blk_ext [idx_c t]
  rw [e]
  exact point22 m c t a h r d

theorem final23 (c : Dev nD) : (dats m 0 c).arrAt 23 (cfgs 0).N = Reference.VS (Reference.KH (Reference.kv3 (Reference.KV (PP m c)))) (Reference.ONE 0#32) := by
  refine (dats m 0 c).arrAt_eq_of_covers 23 _ (by decide +kernel) fun t hf y => ?_
  blk_simp; rw [after_23]
  obtain ⟨a, h, r, d, rfl⟩ : ∃ a h r d, y = ix4 a h r d := ⟨y 0, y 1, y 2, y 3, eq_ix4 y⟩
  have e : ((cfg0.win 23).blk t).view.emb (ix4 a h r d) = ix4 ⟨t.val / 16, by have ht : t.val < 128 := t.isLt; omega⟩ h ⟨t.val % 16 * 512 + r.val, by omega⟩ d := by
    blk_ext [idx_c t]
  rw [e]
  exact point23 m c t a h r d

theorem final24 (c : Dev nD) : (dats m 0 c).arrAt 24 (cfgs 0).N = Reference.VS (Reference.KN (Reference.KH (Reference.kv4 (Reference.KV (PP m c)))) (GW m c)) Reference.Z := by
  refine (dats m 0 c).arrAt_eq_of_covers 24 _ (by decide +kernel) fun t hf y => ?_
  blk_simp; rw [after_24]
  obtain ⟨a, h, r, d, rfl⟩ : ∃ a h r d, y = ix4 a h r d := ⟨y 0, y 1, y 2, y 3, eq_ix4 y⟩
  have e : ((cfg0.win 24).blk t).view.emb (ix4 a h r d) = ix4 ⟨t.val / 16, by have ht : t.val < 128 := t.isLt; omega⟩ h ⟨t.val % 16 * 512 + r.val, by omega⟩ d := by
    blk_ext [idx_c t]
  rw [e]
  exact point24 m c t a h r d

theorem final25 (c : Dev nD) : (dats m 0 c).arrAt 25 (cfgs 0).N = Reference.VS (Reference.KH (Reference.kv5 (Reference.KV (PP m c)))) (Reference.ONE 1#32) := by
  refine (dats m 0 c).arrAt_eq_of_covers 25 _ (by decide +kernel) fun t hf y => ?_
  blk_simp; rw [after_25]
  obtain ⟨a, h, r, d, rfl⟩ : ∃ a h r d, y = ix4 a h r d := ⟨y 0, y 1, y 2, y 3, eq_ix4 y⟩
  have e : ((cfg0.win 25).blk t).view.emb (ix4 a h r d) = ix4 ⟨t.val / 16, by have ht : t.val < 128 := t.isLt; omega⟩ h ⟨t.val % 16 * 512 + r.val, by omega⟩ d := by
    blk_ext [idx_c t]
  rw [e]
  exact point25 m c t a h r d

theorem final26 (c : Dev nD) : (dats m 0 c).arrAt 26 (cfgs 0).N = Reference.GN (Reference.GT (PP m c)) := by
  refine (dats m 0 c).arrAt_eq_of_covers 26 _ (by decide +kernel) fun t hf y => ?_
  blk_simp; rw [after_26]
  obtain ⟨a, h, r, d, rfl⟩ : ∃ a h r d, y = ix4 a h r d := ⟨y 0, y 1, y 2, y 3, eq_ix4 y⟩
  have e : ((cfg0.win 26).blk t).view.emb (ix4 a h r d) = ix4 ⟨t.val / 16, by have ht : t.val < 128 := t.isLt; omega⟩ h ⟨t.val % 16 * 512 + r.val, by omega⟩ d := by
    blk_ext [idx_c t]
  rw [e]
  exact point26 m c t a h r d

theorem point28 (c : Dev nD) (t : Fin cfg0.N) (r : Fin 512) (l : Fin 512) :
    (left m c t.val t.isLt).2.2.2.2.2.2.2.2.2.1 (ix2 r l) = Reference.QM (Reference.MH (PP m c)) (m ((c : Thread nD τ).loc main_arg4)) (ix2 ⟨512 * t.val + r.val, by have ht : t.val < 128 := t.isLt; omega⟩ l) := by
  have ht : t.val < 128 := t.isLt
  rw [out28, qm_col, Reference.qm_ref]
  simp only [Reference.mh_ref]
  exact congrArg (fun f => head128 f _ _) (funext fun j => entry3_eq _ (by dsimp only; omega) (by dsimp only; omega) rfl)

theorem final28 (c : Dev nD) : (dats m 0 c).arrAt 28 (cfgs 0).N = Reference.QM (Reference.MH (PP m c)) (m ((c : Thread nD τ).loc main_arg4)) := by
  refine (dats m 0 c).arrAt_eq_of_covers 28 _ (by decide +kernel) fun t hf y => ?_
  blk_simp; rw [after_28]
  obtain ⟨r, l, rfl⟩ : ∃ r l, y = ix2 r l := ⟨y 0, y 1, eq_ix2 y⟩
  have e : ((cfg0.win 28).blk t).view.emb (ix2 r l) = ix2 ⟨512 * t.val + r.val, by have ht : t.val < 128 := t.isLt; omega⟩ l := by
    blk_ext [idx_c t]
  rw [e]
  exact point28 m c t r l

theorem point29 (c : Dev nD) (t : Fin cfg0.N) (r : Fin 512) (l : Fin 3072) :
    (left m c t.val t.isLt).2.2.2.2.2.2.2.2.2.2.1 (ix2 r l) = Reference.GM (PP m c) (ix2 ⟨512 * t.val + r.val, by have ht : t.val < 128 := t.isLt; omega⟩ l) := by
  have ht : t.val < 128 := t.isLt
  rw [out29, gm_col, Reference.gm_ref]
  exact congrArg sigma (entry3_eq _ (by dsimp only; omega) (by dsimp only; omega) rfl)

theorem final29 (c : Dev nD) : (dats m 0 c).arrAt 29 (cfgs 0).N = Reference.GM (PP m c) := by
  refine (dats m 0 c).arrAt_eq_of_covers 29 _ (by decide +kernel) fun t hf y => ?_
  blk_simp; rw [after_29]
  obtain ⟨r, l, rfl⟩ : ∃ r l, y = ix2 r l := ⟨y 0, y 1, eq_ix2 y⟩
  have e : ((cfg0.win 29).blk t).view.emb (ix2 r l) = ix2 ⟨512 * t.val + r.val, by have ht : t.val < 128 := t.isLt; omega⟩ l := by
    blk_ext [idx_c t]
  rw [e]
  exact point29 m c t r l

end Cert.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Pre_finite_memory
public import proofs.«01_k».proof.Proof.FfnValue
public import proofs.«01_k».proof.Proof.MergeValue
public import proofs.«01_k».proof.Proof.Gen.Reference2Ideal.Run
public import proofs.«01_k».proof.Proof.Gen.Reference3Ideal.Run
public import Idealize.ShloMosaic.Adequacy
public import Idealize.ShloMosaic.Init
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.InprojBits
public import proofs.«01_k».proof.Proof.InprojValue

@[expose] public section

noncomputable section

namespace Cert.Proof

open Idealize.ShloMosaic Idealize.SL.Sem Cert.Kernel

/-- The two masks named in the attention kernel's body stand for minus infinity. -/
theorem preserves : Cert.preserves_Kernel_KernelIdeal :=
  ⟨IdealRules.named_const.statement Cert.KernelIdeal.κ "sel" .f32 0xCE6E6B28#32 ⊥ rfl,
   IdealRules.named_const.statement Cert.KernelIdeal.κ "mask" .f32 0xF149F2CA#32 ⊥ rfl⟩

/-- The attention reference runs, leaves its arguments and declares no semaphore. -/
theorem frame_referenceideal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The merge's reference runs, leaves its arguments and declares no semaphore. -/
theorem frame_reference2ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The feed-forward reference runs, leaves its arguments and declares no semaphore. -/
theorem frame_reference3ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The precondition: every query and every memory key is a real. -/
theorem real_of_pre (m : (ℓ : Loc Cert.Kernel2Ideal.nD Cert.Kernel2Ideal.τ Cert.Kernel2Ideal.sig) → Buf (Elt Ideal) ℓ) (h : Cert.Pre_Kernel2Ideal_finite_memory m)
    (c : Dev Cert.Kernel2Ideal.nD) :
    (∀ i, ∃ r : ℝ, m ((c.tc : Thread Cert.Kernel2Ideal.nD Cert.Kernel2Ideal.τ).loc Cert.Kernel2Ideal.main_arg3) i = (r : EReal))
    ∧ ∀ i, ∃ r : ℝ, m ((c.tc : Thread Cert.Kernel2Ideal.nD Cert.Kernel2Ideal.τ).loc Cert.Kernel2Ideal.main_arg5) i = (r : EReal) := by
  have e := congrFun (h c) (fun a => a.elim0)
  dsimp only [Cert.Pre_finite_memory.fn] at e
  obtain ⟨e3, e5⟩ := IntOp.andi_eq_one.1 e
  refine ⟨fun i => ?_, fun i => ?_⟩
  · have p := Host.reduce_andi_all _ _ _ _ _ e3 i
    refine Cert.IdealFacts.real_of_abs_lt ?_
    rw [← Cert.IdealFacts.ofBits_inf]
    exact p
  · have p := Host.reduce_andi_all _ _ _ _ _ e5 i
    refine Cert.IdealFacts.real_of_abs_lt ?_
    rw [← Cert.IdealFacts.ofBits_inf]
    exact p

set_option maxHeartbeats 1600000 in
/-- The merge at the ideal: memory attention, the gated sum of the branches' projections and the output projection. -/
theorem merge : Cert.algebraic_Kernel2Ideal_Reference2Ideal_pre_finite_memory := by
  intro m g m' g' hp hagree
  refine ⟨fun c => (Cert.Kernel2Ideal.Gen.dats m 0 c).arrAt 11 (Cert.Kernel2Ideal.cfgs 0).N, ?_, ?_⟩
  · run_from Cert.Kernel2Ideal.Gen.run_main m g
  · refine (θ_run Cert.Reference2Ideal.defs _ _).mono (fun _ h c => ⟨(h c).1.trans ?_, (h c).2⟩) (Cert.Reference2Ideal.Value.run (F := Ideal) m' g')
    obtain ⟨h0, h1, h2, h3, h4, h5, h6, h7, h8, h9, h10⟩ := hagree c
    obtain ⟨hq, hk⟩ := real_of_pre m hp c
    refine Eq.trans ?_ (Cert.Kernel2Ideal.Value.final m c hq hk).symm
    rw [← h0, ← h1, ← h2, ← h3, ← h4, ← h5, ← h6, ← h7, ← h8, ← h9, ← h10]
    rfl

set_option maxHeartbeats 1600000 in
/-- The feed-forward block at the ideal. -/
theorem ffn : Cert.algebraic_Kernel3Ideal_Reference3Ideal := by
  pair_intro
  · run_from Cert.Kernel3Ideal.Gen.run_main m g
  · hlo_run
    exact (Cert.Kernel3Ideal.Value.final m c).symm

set_option maxHeartbeats 1600000 in
/-- The input projection at the ideal: every result of the call that the program returns. -/
theorem inproj : Cert.algebraic_Kernel4Ideal_Reference4Ideal := by
  intro m g m' g' hp hagree
  refine ⟨fun c => (Cert.Inproj.dats m 0 c).arrAt 19 (Cert.Kernel4Ideal.cfgs 0).N, fun c => (Cert.Inproj.dats m 0 c).arrAt 20 (Cert.Kernel4Ideal.cfgs 0).N,
    fun c => (Cert.Inproj.dats m 0 c).arrAt 21 (Cert.Kernel4Ideal.cfgs 0).N, fun c => (Cert.Inproj.dats m 0 c).arrAt 22 (Cert.Kernel4Ideal.cfgs 0).N,
    fun c => (Cert.Inproj.dats m 0 c).arrAt 23 (Cert.Kernel4Ideal.cfgs 0).N, fun c => (Cert.Inproj.dats m 0 c).arrAt 24 (Cert.Kernel4Ideal.cfgs 0).N,
    fun c => (Cert.Inproj.dats m 0 c).arrAt 25 (Cert.Kernel4Ideal.cfgs 0).N, fun c => (Cert.Inproj.dats m 0 c).arrAt 26 (Cert.Kernel4Ideal.cfgs 0).N,
    fun c => (Cert.Inproj.dats m 0 c).arrAt 28 (Cert.Kernel4Ideal.cfgs 0).N, fun c => (Cert.Inproj.dats m 0 c).arrAt 29 (Cert.Kernel4Ideal.cfgs 0).N, ?_, ?_⟩
  · exact (θ_run Cert.Kernel4Ideal.defs _ _).mono (fun r h c => ⟨(h.1 c).1 19, (h.1 c).1 20, (h.1 c).1 21, (h.1 c).1 22, (h.1 c).1 23, (h.1 c).1 24,
      (h.1 c).1 25, (h.1 c).1 26, (h.1 c).1 28, (h.1 c).1 29, h.2.1 c⟩) (θ_run_and (Cert.Inproj.run_main m g) (Cert.Inproj.frame_any m g))
  · refine (θ_run Cert.Reference4Ideal.defs _ _).mono (fun _ h c => ?_) (Cert.Reference4Ideal.Value.run (F := Ideal) m' g')
    obtain ⟨h0, h1, h2, h3, h4, h5, h6, h7, h8⟩ := hagree c
    obtain ⟨r0, r1, r2, r3, r4, r5, r6, r7, r8, r9, hargs⟩ := h c
    refine ⟨r0.trans (Eq.trans ?_ (Cert.Inproj.final19 m c).symm), r1.trans (Eq.trans ?_ (Cert.Inproj.final20 m c).symm),
      r2.trans (Eq.trans ?_ (Cert.Inproj.final21 m c).symm), r3.trans (Eq.trans ?_ (Cert.Inproj.final22 m c).symm),
      r4.trans (Eq.trans ?_ (Cert.Inproj.final23 m c).symm), r5.trans (Eq.trans ?_ (Cert.Inproj.final24 m c).symm),
      r6.trans (Eq.trans ?_ (Cert.Inproj.final25 m c).symm), r7.trans (Eq.trans ?_ (Cert.Inproj.final26 m c).symm),
      r8.trans (Eq.trans ?_ (Cert.Inproj.final28 m c).symm), r9.trans (Eq.trans ?_ (Cert.Inproj.final29 m c).symm), hargs⟩
    all_goals
      unfold Cert.Inproj.PP
      try unfold Cert.Inproj.GS
      try unfold Cert.Inproj.GW
      rw [← h0, ← h1, ← h2]
      try rw [← h3]
      try rw [← h4]
      rfl

/-- The input projection's reference runs, leaves its arguments and declares no semaphore. -/
theorem frame_reference4ideal : Cert.quiescent_Reference4Ideal := fun m ρ _ =>
  (θ_run Cert.Reference4Ideal.defs _ _).mono (fun r h => ⟨fun c => (h c).2.2.2.2.2.2.2.2.2.2, Idealize.ShloMosaic.sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite_memory.Gen.facts,
    fun m ρ _ => Cert.Kernel.Gen.frame m ρ, fun m ρ _ => Cert.KernelIdeal.Gen.frame m ρ, frame_referenceideal,
    fun m ρ _ => Cert.Kernel2.Gen.frame m ρ, fun m ρ _ => Cert.Kernel2Ideal.Gen.frame m ρ, fun m ρ _ => Cert.Kernel2Ideal.Gen.frame m ρ,
    frame_reference2ideal, fun m ρ _ => frame_reference2ideal m ρ trivial,
    fun m ρ _ => Cert.Kernel3.Gen.frame m ρ, fun m ρ _ => Cert.Kernel3Ideal.Gen.frame m ρ, frame_reference3ideal,
    fun m ρ _ => Cert.Inproj.frame_bits m ρ, fun m ρ _ => Cert.Inproj.frame_any m ρ, frame_reference4ideal,
    preserves, trivial, merge, trivial, ffn, trivial, inproj⟩

end Cert.Proof

end
